-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v28) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v28) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v28) = v0 c
          ∧ r.2.mem ((c.tc : Thread Cert.MixRefIdeal.nD Cert.MixRefIdeal.τ).loc Cert.MixRefIdeal.main_v29) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v3) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v1) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v5) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v67) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v3_0)) (v1 : (c : Dev Cert.RouteIdeal.nD) → Buf (Elt Ideal) ((c.tc : Thread Cert.RouteIdeal.nD Cert.RouteIdeal.τ).loc Cert.RouteIdeal.main_v3_1)) (v2 : (c : Dev Cert.RouteIdeal.nD) → Buf (Elt Ideal) ((c.tc : Thread Cert.RouteIdeal.nD Cert.RouteIdeal.τ).loc Cert.RouteIdeal.main_v3_2)) (v3 : (c : Dev Cert.RouteIdeal.nD) → Buf (Elt Ideal) ((c.tc : Thread Cert.RouteIdeal.nD Cert.RouteIdeal.τ).loc Cert.RouteIdeal.main_v3_3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_0) = v0 c
          ∧ r.2.mem ((c.tc : Thread Cert.RouteIdeal.nD Cert.RouteIdeal.τ).loc Cert.RouteIdeal.main_v3_1) = v1 c
          ∧ r.2.mem ((c.tc : Thread Cert.RouteIdeal.nD Cert.RouteIdeal.τ).loc Cert.RouteIdeal.main_v3_2) = v2 c
          ∧ r.2.mem ((c.tc : Thread Cert.RouteIdeal.nD Cert.RouteIdeal.τ).loc Cert.RouteIdeal.main_v3_3) = v3 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v67) = v0 c
          ∧ r.2.mem ((c.tc : Thread Cert.RouteRefIdeal.nD Cert.RouteRefIdeal.τ).loc Cert.RouteRefIdeal.main_v69) = v1 c
          ∧ r.2.mem ((c.tc : Thread Cert.RouteRefIdeal.nD Cert.RouteRefIdeal.τ).loc Cert.RouteRefIdeal.main_v72) = v2 c
          ∧ r.2.mem ((c.tc : Thread Cert.RouteRefIdeal.nD Cert.RouteRefIdeal.τ).loc Cert.RouteRefIdeal.main_v75) = v3 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def preserves_Hgrn_HgrnIdeal : Prop :=
  True

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hConvRefIdeal : Cert.ConvRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hInp : Cert.Inp.Facts) (hInpIdeal : Cert.InpIdeal.Facts) (hInpRefIdeal : Cert.InpRefIdeal.Facts) (hKv : Cert.Kv.Facts) (hKvIdeal : Cert.KvIdeal.Facts) (hKvRefIdeal : Cert.KvRefIdeal.Facts) (hSgu : Cert.Sgu.Facts) (hSguIdeal : Cert.SguIdeal.Facts) (hSguRefIdeal : Cert.SguRefIdeal.Facts) (hRoute : Cert.Route.Facts) (hRouteIdeal : Cert.RouteIdeal.Facts) (hRouteRefIdeal : Cert.RouteRefIdeal.Facts) (hHgrn : Cert.Hgrn.Facts) (hHgrnIdeal : Cert.HgrnIdeal.Facts),
    quiescent_Kernel (hKernel := hKernel)
    ∧ quiescent_KernelIdeal (hKernelIdeal := hKernelIdeal)
    ∧ quiescent_ReferenceIdeal (hReferenceIdeal := hReferenceIdeal)
    ∧ quiescent_Conv (hConv := hConv)
    ∧ quiescent_ConvIdeal (hConvIdeal := hConvIdeal)
    ∧ quiescent_ConvRefIdeal (hConvRefIdeal := hConvRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Inp (hInp := hInp)
    ∧ quiescent_InpIdeal (hInpIdeal := hInpIdeal)
    ∧ quiescent_InpRefIdeal (hInpRefIdeal := hInpRefIdeal)
    ∧ quiescent_Kv (hKv := hKv)
    ∧ quiescent_KvIdeal (hKvIdeal := hKvIdeal)
    ∧ quiescent_KvRefIdeal (hKvRefIdeal := hKvRefIdeal)
    ∧ quiescent_Sgu (hSgu := hSgu)
    ∧ quiescent_SguIdeal (hSguIdeal := hSguIdeal)
    ∧ quiescent_SguRefIdeal (hSguRefIdeal := hSguRefIdeal)
    ∧ quiescent_Route (hRoute := hRoute)
    ∧ quiescent_RouteIdeal (hRouteIdeal := hRouteIdeal)
    ∧ quiescent_RouteRefIdeal (hRouteRefIdeal := hRouteRefIdeal)
    ∧ quiescent_Hgrn (hHgrn := hHgrn)
    ∧ quiescent_HgrnIdeal (hHgrnIdeal := hHgrnIdeal)
    ∧ preserves_Kernel_KernelIdeal
    ∧ algebraic_KernelIdeal_ReferenceIdeal (hKernelIdeal := hKernelIdeal) (hReferenceIdeal := hReferenceIdeal)
    ∧ preserves_Conv_ConvIdeal
    ∧ algebraic_ConvIdeal_ConvRefIdeal (hConvIdeal := hConvIdeal) (hConvRefIdeal := hConvRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Inp_InpIdeal
    ∧ algebraic_InpIdeal_InpRefIdeal (hInpIdeal := hInpIdeal) (hInpRefIdeal := hInpRefIdeal)
    ∧ preserves_Kv_KvIdeal
    ∧ algebraic_KvIdeal_KvRefIdeal (hKvIdeal := hKvIdeal) (hKvRefIdeal := hKvRefIdeal)
    ∧ preserves_Sgu_SguIdeal
    ∧ algebraic_SguIdeal_SguRefIdeal (hSguIdeal := hSguIdeal) (hSguRefIdeal := hSguRefIdeal)
    ∧ preserves_Route_RouteIdeal
    ∧ algebraic_RouteIdeal_RouteRefIdeal (hRouteIdeal := hRouteIdeal) (hRouteRefIdeal := hRouteRefIdeal)
    ∧ preserves_Hgrn_HgrnIdeal
-- ==== Kernel.lean ====
abbrev S16x2048x2048 : Shape := ⟨3, ![16, 2048, 2048]⟩
abbrev S2048x2048 : Shape := ⟨2, ![2048, 2048]⟩
abbrev S16x256x4096 : Shape := ⟨3, ![16, 256, 4096]⟩
abbrev S32768x2048 : Shape := ⟨2, ![32768, 2048]⟩
abbrev S4096x4096 : Shape := ⟨2, ![4096, 4096]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S16x256x4096, .f32⟩
  | .hbm, ⟨3, _⟩ => ⟨S32768x2048, .f32⟩
  | .hbm, ⟨4, _⟩ => ⟨S32768x2048, .bf16⟩
  | .hbm, ⟨5, _⟩ => ⟨S4096x4096, .f32⟩
  | .hbm, ⟨6, _⟩ => ⟨S4096x4096, .bf16⟩
  | .hbm, ⟨7, _⟩ => ⟨S2048x2048, .bf16⟩
  | .hbm, ⟨8, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S512x2048, .bf16⟩
  | .local _ .vmem, ⟨8, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x2048 : Shape := ⟨3, ![16, 2048, 2048]⟩
abbrev S2048x2048 : Shape := ⟨2, ![2048, 2048]⟩
abbrev S16x256x4096 : Shape := ⟨3, ![16, 256, 4096]⟩
abbrev S16x2048x4x512 : Shape := ⟨4, ![16, 2048, 4, 512]⟩
abbrev S16x256x2048 : Shape := ⟨3, ![16, 256, 2048]⟩
abbrev S16x256x4x512 : Shape := ⟨4, ![16, 256, 4, 512]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x512x2048 : Shape := ⟨4, ![16, 4, 512, 2048]⟩
abbrev S32768x2048 : Shape := ⟨2, ![32768, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S16x256x4096, .f32⟩
  | .hbm, ⟨3, _⟩ => ⟨S16x2048x2048, .f32⟩
  | .hbm, ⟨4, _⟩ => ⟨S16x2048x4x512, .f32⟩
  | .hbm, ⟨5, _⟩ => ⟨S16x256x2048, .f32⟩
  | .hbm, ⟨6, _⟩ => ⟨S16x256x2048, .f32⟩
  | .hbm, ⟨7, _⟩ => ⟨S16x256x4x512, .f32⟩
  | .hbm, ⟨8, _⟩ => ⟨S16x256x4x512, .f32⟩
  | .hbm, ⟨9, _⟩ => ⟨S16x4x2048x256, .f32⟩
  | .hbm, ⟨10, _⟩ => ⟨S_, .f32⟩
  | .hbm, ⟨11, _⟩ => ⟨S16x4x2048x256, .f32⟩
  | .hbm, ⟨12, _⟩ => ⟨S16x4x2048x256, .f32⟩
  | .hbm, ⟨13, _⟩ => ⟨S_, .f32⟩
  | .hbm, ⟨14, _⟩ => ⟨S16x4x2048, .f32⟩
  | .hbm, ⟨15, _⟩ => ⟨S_, .f32⟩
  | .hbm, ⟨16, _⟩ => ⟨S16x4x2048, .f32⟩
  | .hbm, ⟨17, _⟩ => ⟨S16x4x2048, .f32⟩
  | .hbm, ⟨18, _⟩ => ⟨S16x4x2048x1, .f32⟩
  | .hbm, ⟨19, _⟩ => ⟨S16x4x2048x256, .f32⟩
  | .hbm, ⟨20, _⟩ => ⟨S16x4x2048x256, .f32⟩
  | .hbm, ⟨21, _⟩ => ⟨S16x4x2048x256, .f32⟩
  | .hbm, ⟨22, _⟩ => ⟨S_, .f32⟩
  | .hbm, ⟨23, _⟩ => ⟨S16x4x2048, .f32⟩
  | .hbm, ⟨24, _⟩ => ⟨S16x4x2048x1, .f32⟩
  | .hbm, ⟨25, _⟩ => ⟨S16x4x2048x256, .f32⟩
  | .hbm, ⟨26, _⟩ => ⟨S16x4x2048x256, .f32⟩
  | .hbm, ⟨27, _⟩ => ⟨S16x4x512x2048, .f32⟩
  | .hbm, ⟨28, _⟩ => ⟨S16x2048x4x512, .f32⟩
  | .hbm, ⟨29, _⟩ => ⟨S32768x2048, .f32⟩
  | .hbm, ⟨30, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Conv.lean ====
abbrev S16x2048x2048 : Shape := ⟨3, ![16, 2048, 2048]⟩
abbrev S2048x6144 : Shape := ⟨2, ![2048, 6144]⟩
abbrev S3x2048 : Shape := ⟨2, ![3, 2048]⟩
abbrev S32768x2048 : Shape := ⟨2, ![32768, 2048]⟩
abbrev S_ : Shape := ⟨0, ![]⟩
abbrev S8x2048 : Shape := ⟨2, ![8, 2048]⟩
abbrev S1 : Shape := ⟨1, ![1]⟩
abbrev S512x2048 : Shape := ⟨2, ![512, 2048]⟩
abbrev S2048x512 : Shape := ⟨2, ![2048, 512]⟩
abbrev S8x512 : Shape := ⟨2, ![8, 512]⟩
abbrev S512x512 : Shape := ⟨2, ![512, 512]⟩
abbrev S1x512 : Shape := ⟨2, ![1, 512]⟩

abbrev nBuf : Space → Nat
  | .hbm => 12
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S2048x6144, .f32⟩
  | .hbm, ⟨2, _⟩ => ⟨S3x2048, .f32⟩
  | .hbm, ⟨3, _⟩ => ⟨S32768x2048, .f32⟩
  | .hbm, ⟨4, _⟩ => ⟨S32768x2048, .bf16⟩
  | .hbm, ⟨5, _⟩ => ⟨S2048x6144, .bf16⟩
  | .hbm, ⟨6, _⟩ => ⟨S_, .f32⟩
  | .hbm, ⟨7, _⟩ => ⟨S8x2048, .f32⟩
  | .hbm, ⟨8, _⟩ => ⟨S_, .i32⟩
  | .hbm, ⟨9, _⟩ => ⟨S1, .i32⟩
  | .hbm, ⟨10, _⟩ => ⟨S8x2048, .f32⟩
  | .hbm, ⟨11, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S8x512, .f32⟩
  | .local _ .vmem, ⟨9, _⟩ => ⟨S8x512, .f32⟩
  | .local _ .vmem, ⟨10, _⟩ => ⟨S512x512, .bf16⟩
  | .local _ .vmem, ⟨11, _⟩ => ⟨S512x512, .bf16⟩
  | .local _ .vmem, ⟨12, _⟩ => ⟨S8x512, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S16x2048x2048 : Shape := ⟨3, ![16, 2048, 2048]⟩
abbrev S2048x6144 : Shape := ⟨2, ![2048, 6144]⟩
abbrev S3x2048 : Shape := ⟨2, ![3, 2048]⟩
abbrev S16x2048x6144 : Shape := ⟨3, ![16, 2048, 6144]⟩
abbrev S_ : Shape := ⟨0, ![]⟩
abbrev S16x2050x2048 : Shape := ⟨3, ![16, 2050, 2048]⟩
abbrev S1x2048 : Shape := ⟨2, ![1, 2048]⟩
abbrev S2048 : Shape := ⟨1, ![2048]⟩
abbrev S1x1x2048 : Shape := ⟨3, ![1, 1, 2048]⟩
abbrev S32768x2048 : Shape := ⟨2, ![32768, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x6144, .f32⟩
  | .hbm, ⟨2, _⟩ => ⟨S3x2048, .f32⟩
  | .hbm, ⟨3, _⟩ => ⟨S16x2048x6144, .f32⟩
  | .hbm, ⟨4, _⟩ => ⟨S16x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S_, .i32⟩
  | .hbm, ⟨9, _⟩ => ⟨S_, .f32⟩
  | .hbm, ⟨10, _⟩ => ⟨S16x2050x2048, .f32⟩
  | .hbm, ⟨11, _⟩ => ⟨S1x2048, .f32⟩
  | .hbm, ⟨12, _⟩ => ⟨S2048, .f32⟩
  | .hbm, ⟨13, _⟩ => ⟨S16x2048x2048, .f32⟩
  | .hbm, ⟨14, _⟩ => ⟨S1x1x2048, .f32⟩
  | .hbm, ⟨15, _⟩ => ⟨S16x2048x2048, .f32⟩
  | .hbm, ⟨16, _⟩ => ⟨S16x2048x2048, .f32⟩
  | .hbm, ⟨17, _⟩ => ⟨S1x2048, .f32⟩
  | .hbm, ⟨18, _⟩ => ⟨S2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S1x2048, .f32⟩
  | .hbm, ⟨25, _⟩ => ⟨S2048, .f32⟩
  | .hbm, ⟨26, _⟩ => ⟨S16x2048x2048, .f32⟩
  | .hbm, ⟨27, _⟩ => ⟨S1x1x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S32768x2048, .f32⟩
  | .hbm, ⟨33, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Proj.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Mix.lean ====
abbrev S32768x1024 : Shape := ⟨2, ![32768, 1024]⟩
abbrev S2048x2048 : Shape := ⟨2, ![2048, 2048]⟩
abbrev S32768x2048 : Shape := ⟨2, ![32768, 2048]⟩
abbrev S2048 : Shape := ⟨1, ![2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S32768x1024, .bf16⟩
  | .hbm, ⟨8, _⟩ => ⟨S32768x1024, .bf16⟩
  | .hbm, ⟨9, _⟩ => ⟨S1024x2048, .bf16⟩
  | .hbm, ⟨10, _⟩ => ⟨S1024x2048, .bf16⟩
  | .hbm, ⟨11, _⟩ => ⟨S1x2048, .f32⟩
  | .hbm, ⟨12, _⟩ => ⟨S1x2048, .f32⟩
  | .hbm, ⟨13, _⟩ => ⟨S32768x2048, .f32⟩
  | .hbm, ⟨14, _⟩ => ⟨S32768x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S32768x1024 : Shape := ⟨2, ![32768, 1024]⟩
abbrev S2048x2048 : Shape := ⟨2, ![2048, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Inp.lean ====
abbrev S16x2048x2048 : Shape := ⟨3, ![16, 2048, 2048]⟩
abbrev S2048x6144 : Shape := ⟨2, ![2048, 6144]⟩
abbrev S32768x2048 : Shape := ⟨2, ![32768, 2048]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x6144, .f32⟩
  | .hbm, ⟨2, _⟩ => ⟨S32768x2048, .f32⟩
  | .hbm, ⟨3, _⟩ => ⟨S32768x2048, .bf16⟩
  | .hbm, ⟨4, _⟩ => ⟨S2048x6144, .bf16⟩
  | .hbm, ⟨5, _⟩ => ⟨S32768x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InpRefIdeal.lean ====
abbrev S16x2048x2048 : Shape := ⟨3, ![16, 2048, 2048]⟩
abbrev S2048x6144 : Shape := ⟨2, ![2048, 6144]⟩
abbrev S16x2048x6144 : Shape := ⟨3, ![16, 2048, 6144]⟩
abbrev S32768x6144 : Shape := ⟨2, ![32768, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x6144, .f32⟩
  | .hbm, ⟨2, _⟩ => ⟨S16x2048x6144, .f32⟩
  | .hbm, ⟨3, _⟩ => ⟨S32768x6144, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kv.lean ====
abbrev S16x256x2048 : Shape := ⟨3, ![16, 256, 2048]⟩
abbrev S2048x4096 : Shape := ⟨2, ![2048, 4096]⟩
abbrev S4096x2048 : Shape := ⟨2, ![4096, 2048]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x256x2048, .f32⟩
  | .hbm, ⟨1, _⟩ => ⟨S2048x4096, .f32⟩
  | .hbm, ⟨2, _⟩ => ⟨S4096x2048, .f32⟩
  | .hbm, ⟨3, _⟩ => ⟨S4096x2048, .bf16⟩
  | .hbm, ⟨4, _⟩ => ⟨S2048x4096, .bf16⟩
  | .hbm, ⟨5, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S16x256x2048 : Shape := ⟨3, ![16, 256, 2048]⟩
abbrev S2048x4096 : Shape := ⟨2, ![2048, 4096]⟩
abbrev S16x256x4096 : Shape := ⟨3, ![16, 256, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2048x4096, .f32⟩
  | .hbm, ⟨2, _⟩ => ⟨S16x256x4096, .f32⟩
  | .hbm, ⟨3, _⟩ => ⟨S4096x4096, .f32⟩
  | .hbm, ⟨4, _⟩ => ⟨S4096x4096, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Sgu.lean ====
abbrev S32768x6144 : Shape := ⟨2, ![32768, 6144]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S32768x1024 : Shape := ⟨2, ![32768, 1024]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩

abbrev nBuf : Space → Nat
  | .hbm => 11
  | .vmem => 10
  | .smem => 0
  | _ => 0

abbrev bufTy : (tb : Table) → Fin (tcTables nBuf tb) → BufTy
  | .hbm, ⟨0, _⟩ => ⟨S32768x6144, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x128, .f32⟩
  | .hbm, ⟨7, _⟩ => ⟨S128x1024, .f32⟩
  | .hbm, ⟨8, _⟩ => ⟨S1x1024, .f32⟩
  | .hbm, ⟨9, _⟩ => ⟨S1x1024, .f32⟩
  | .hbm, ⟨10, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x1024, .f32⟩
  | .local _ .vmem, ⟨8, _⟩ => ⟨S256x1024, .bf16⟩
  | .local _ .vmem, ⟨9, _⟩ => ⟨S256x1024, .bf16⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S32768x6144 : Shape := ⟨2, ![32768, 6144]⟩
abbrev S1024 : Shape := ⟨1, ![1024]⟩
abbrev S8x128x128 : Shape := ⟨3, ![8, 128, 128]⟩
abbrev S8x128 : Shape := ⟨2, ![8, 128]⟩
abbrev S16x2048x6144 : Shape := ⟨3, ![16, 2048, 6144]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x16x128x8x128 : Shape := ⟨5, ![16, 16, 128, 8, 128]⟩
abbrev S128x128 : Shape := ⟨2, ![128, 128]⟩
abbrev S8x16x16x128x128 : Shape := ⟨5, ![8, 16, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S32768x1024 : Shape := ⟨2, ![32768, 1024]⟩

abbrev nBuf : Space → Nat
  | .hbm => 99
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S16x2048x6144, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1024, .f32⟩
  | .hbm, ⟨58, _⟩ => ⟨S16x2048x1024, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x1, .f32⟩
  | .hbm, ⟨63, _⟩ => ⟨S16x2048x1024, .f32⟩
  | .hbm, ⟨64, _⟩ => ⟨S16x2048x1024, .f32⟩
  | .hbm, ⟨65, _⟩ => ⟨S1x1x1024, .f32⟩
  | .hbm, ⟨66, _⟩ => ⟨S16x2048x1024, .f32⟩
  | .hbm, ⟨67, _⟩ => ⟨S16x2048x1024, .f32⟩
  | .hbm, ⟨68, _⟩ => ⟨S1x1x1024, .f32⟩
  | .hbm, ⟨69, _⟩ => ⟨S16x2048x1024, .f32⟩
  | .hbm, ⟨70, _⟩ => ⟨S16x2048x1024, .f32⟩
  | .hbm, ⟨71, _⟩ => ⟨S16x16x128x8x128, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S_, .i32⟩
  | .hbm, ⟨84, _⟩ => ⟨S_, .f32⟩
  | .hbm, ⟨85, _⟩ => ⟨S8x128x128, .i1⟩
  | .hbm, ⟨86, _⟩ => ⟨S8x128x128, .f32⟩
  | .hbm, ⟨87, _⟩ => ⟨S8x128x128, .f32⟩
  | .hbm, ⟨88, _⟩ => ⟨S8x16x16x128x128, .f32⟩
  | .hbm, ⟨89, _⟩ => ⟨S16x16x128x8x128, .f32⟩
  | .hbm, ⟨90, _⟩ => ⟨S128x8, .f32⟩
  | .hbm, ⟨91, _⟩ => ⟨S128x8x1, .f32⟩
  | .hbm, ⟨92, _⟩ => ⟨S1x1x128x8x1, .f32⟩
  | .hbm, ⟨93, _⟩ => ⟨S16x16x128x8x128, .f32⟩
  | .hbm, ⟨94, _⟩ => ⟨S16x16x128x8x128, .f32⟩
  | .hbm, ⟨95, _⟩ => ⟨S16x2048x1024, .f32⟩
  | .hbm, ⟨96, _⟩ => ⟨S16x2048x1024, .f32⟩
  | .hbm, ⟨97, _⟩ => ⟨S32768x1024, .f32⟩
  | .hbm, ⟨98, _⟩ => ⟨S32768x1024, .bf16⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v55 : Ref sig .tc := ⟨.hbm, 82, rfl⟩
abbrev main_c_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Route.lean ====
abbrev S32768x2048 : Shape := ⟨2, ![32768, 2048]⟩
abbrev S2048x2048 : Shape := ⟨2, ![2048, 2048]⟩
abbrev S2x128x128 : Shape := ⟨3, ![2, 128, 128]⟩
abbrev S8x256x128x128 : Shape := ⟨4, ![8, 256, 128, 128]⟩
abbrev S1024x2048 : Shape := ⟨2, ![1024, 2048]⟩
abbrev S2048x256 : Shape := ⟨2, ![2048, 256]⟩
abbrev S1x8x128x128 : Shape := ⟨4, ![1, 8, 128, 128]⟩
abbrev S1024x256 : Shape := ⟨2, ![1024, 256]⟩
abbrev S256x256 : Shape := ⟨2, ![256, 256]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S8x256 : Shape := ⟨2, ![8, 256]⟩
abbrev S1x256 : Shape := ⟨2, ![1, 256]⟩
abbrev S1x1x128x128 : Shape := ⟨4, ![1, 1, 128, 128]⟩

abbrev nBuf : Space → Nat
  | .hbm => 10
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2x128x128, .f32⟩
  | .hbm, ⟨3, _⟩ => ⟨S32768x2048, .bf16⟩
  | .hbm, ⟨4, _⟩ => ⟨S2048x2048, .bf16⟩
  | .hbm, ⟨5, _⟩ => ⟨S2x128x128, .bf16⟩
  | .hbm, ⟨6, _⟩ => ⟨S8x256x128x128, .f32⟩
  | .hbm, ⟨7, _⟩ => ⟨S8x256x128x128, .f32⟩
  | .hbm, ⟨8, _⟩ => ⟨S8x256x128x128, .bf16⟩
  | .hbm, ⟨9, _⟩ => ⟨S8x256x128x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S2x128x128, .bf16⟩
  | .local _ .vmem, ⟨5, _⟩ => ⟨S1x8x128x128, .f32⟩
  | .local _ .vmem, ⟨6, _⟩ => ⟨S1x8x128x128, .f32⟩
  | .local _ .vmem, ⟨7, _⟩ => ⟨S1x8x128x128, .f32⟩
  | .local _ .vmem, ⟨8, _⟩ => ⟨S1x8x128x128, .f32⟩
  | .local _ .vmem, ⟨9, _⟩ => ⟨S1x8x128x128, .bf16⟩
  | .local _ .vmem, ⟨10, _⟩ => ⟨S1x8x128x128, .bf16⟩
  | .local _ .vmem, ⟨11, _⟩ => ⟨S1x8x128x128, .bf16⟩
  | .local _ .vmem, ⟨12, _⟩ => ⟨S1x8x128x128, .bf16⟩
  | .local _ .vmem, ⟨13, _⟩ => ⟨S1024x256, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32 : BitVec 32 := 0#32
  let c4_i32 : BitVec 32 := 4#32
  let v9 : BitVec 32 := Scalar.addi c0_i32 c4_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v10 : BitVec 32 := Scalar.muli arg10 c256_i32
  v10
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v10 : BitVec 32 := Scalar.muli arg10 c256_i32
  let v11 : BitVec 32 := v10
  let v12 : Index := Scalar.indexCast v11
  let c0_6 : Index := 0#32
  ![v12.toNat, 0]
def k0_off2 (k0_t1 : Fin k0_t1_loop.trips) (c0_i32_130 : BitVec 32) : Fin 4 → Nat :=
  let c0_131 : Index := 0#32
  let c0_i32 : BitVec 32 := 0#32
  let c1_i32 : BitVec 32 := 1#32
  let arg10 : BitVec 32 := Scf.iv c0_i32 c1_i32 k0_t1
  let c2_i32_129 : BitVec 32 := 2#32
  let v1905 : BitVec 32 := Scalar.muli arg10 c2_i32_129
  let v1906 : BitVec 32 := Scalar.addi v1905 c0_i32_130
  let v1908 : Index := Scalar.indexCast v1906
  let c0_132 : Index := 0#32
  let c0_133 : Index := 0#32
  ![0, v1908.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RouteRefIdeal.lean ====
abbrev S32768x2048 : Shape := ⟨2, ![32768, 2048]⟩
abbrev S2048x2048 : Shape := ⟨2, ![2048, 2048]⟩
abbrev S2x128x128 : Shape := ⟨3, ![2, 128, 128]⟩
abbrev S32768x8x2x128 : Shape := ⟨4, ![32768, 8, 2, 128]⟩
abbrev S2x128x32768x8 : Shape := ⟨4, ![2, 128, 32768, 8]⟩
abbrev S32768x8x2x16 : Shape := ⟨4, ![32768, 8, 2, 16]⟩
abbrev S32768x8x1x16 : Shape := ⟨4, ![32768, 8, 1, 16]⟩
abbrev S32768x8x16 : Shape := ⟨3, ![32768, 8, 16]⟩
abbrev S32768x8x16x1 : Shape := ⟨4, ![32768, 8, 16, 1]⟩
abbrev S32768x8x16x16 : Shape := ⟨4, ![32768, 8, 16, 16]⟩
abbrev S32768x8x256 : Shape := ⟨3, ![32768, 8, 256]⟩
abbrev S32768x8x1 : Shape := ⟨3, ![32768, 8, 1]⟩
abbrev S_ : Shape := ⟨0, ![]⟩
abbrev S32768x8 : Shape := ⟨2, ![32768, 8]⟩
abbrev S32768x8x1x1 : Shape := ⟨4, ![32768, 8, 1, 1]⟩
abbrev S32768x8x1x128 : Shape := ⟨4, ![32768, 8, 1, 128]⟩
abbrev S32768x8x128 : Shape := ⟨3, ![32768, 8, 128]⟩
abbrev S32768x8x128x1 : Shape := ⟨4, ![32768, 8, 128, 1]⟩
abbrev S32768x8x128x16 : Shape := ⟨4, ![32768, 8, 128, 16]⟩
abbrev S256x128x8x128 : Shape := ⟨4, ![256, 128, 8, 128]⟩
abbrev S8x256x128x128 : Shape := ⟨4, ![8, 256, 128, 128]⟩

abbrev nBuf : Space → Nat
  | .hbm => 95
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2x128x128, .f32⟩
  | .hbm, ⟨3, _⟩ => ⟨S32768x2048, .f32⟩
  | .hbm, ⟨4, _⟩ => ⟨S32768x8x2x128, .f32⟩
  | .hbm, ⟨5, _⟩ => ⟨S2x128x32768x8, .f32⟩
  | .hbm, ⟨6, _⟩ => ⟨S32768x8x2x128, .f32⟩
  | .hbm, ⟨7, _⟩ => ⟨S32768x8x2x16, .f32⟩
  | .hbm, ⟨8, _⟩ => ⟨S32768x8x2x16, .i32⟩
  | .hbm, ⟨9, _⟩ => ⟨S32768x8x1x16, .f32⟩
  | .hbm, ⟨10, _⟩ => ⟨S32768x8x16, .f32⟩
  | .hbm, ⟨11, _⟩ => ⟨S32768x8x16x1, .f32⟩
  | .hbm, ⟨12, _⟩ => ⟨S32768x8x1x16, .f32⟩
  | .hbm, ⟨13, _⟩ => ⟨S32768x8x16, .f32⟩
  | .hbm, ⟨14, _⟩ => ⟨S32768x8x1x16, .f32⟩
  | .hbm, ⟨15, _⟩ => ⟨S32768x8x16x16, .f32⟩
  | .hbm, ⟨16, _⟩ => ⟨S32768x8x16x16, .f32⟩
  | .hbm, ⟨17, _⟩ => ⟨S32768x8x16x16, .f32⟩
  | .hbm, ⟨18, _⟩ => ⟨S32768x8x256, .f32⟩
  | .hbm, ⟨19, _⟩ => ⟨S32768x8x16, .f32⟩
  | .hbm, ⟨20, _⟩ => ⟨S32768x8x16, .i32⟩
  | .hbm, ⟨21, _⟩ => ⟨S32768x8x1, .f32⟩
  | .hbm, ⟨22, _⟩ => ⟨S32768x8x16, .f32⟩
  | .hbm, ⟨23, _⟩ => ⟨S32768x8x16, .f32⟩
  | .hbm, ⟨24, _⟩ => ⟨S32768x8x16, .f32⟩
  | .hbm, ⟨25, _⟩ => ⟨S_, .f32⟩
  | .hbm, ⟨26, _⟩ => ⟨S32768x8, .f32⟩
  | .hbm, ⟨27, _⟩ => ⟨S32768x8x1, .f32⟩
  | .hbm, ⟨28, _⟩ => ⟨S32768x8x1, .f32⟩
  | .hbm, ⟨29, _⟩ => ⟨S32768x8x1x1, .f32⟩
  | .hbm, ⟨30, _⟩ => ⟨S32768x8x1x128, .f32⟩
  | .hbm, ⟨31, _⟩ => ⟨S32768x8x128, .f32⟩
  | .hbm, ⟨32, _⟩ => ⟨S32768x8x128x1, .f32⟩
  | .hbm, ⟨33, _⟩ => ⟨S32768x8x1x16, .f32⟩
  | .hbm, ⟨34, _⟩ => ⟨S32768x8x16, .f32⟩
  | .hbm, ⟨35, _⟩ => ⟨S32768x8x1x16, .f32⟩
  | .hbm, ⟨36, _⟩ => ⟨S32768x8x128x16, .f32⟩
  | .hbm, ⟨37, _⟩ => ⟨S32768x8x128x16, .f32⟩
  | .hbm, ⟨38, _⟩ => ⟨S32768x8x128x16, .f32⟩
  | .hbm, ⟨39, _⟩ => ⟨S32768x8x128x16, .f32⟩
  | .hbm, ⟨40, _⟩ => ⟨S32768x8x128x16, .i1⟩
  | .hbm, ⟨41, _⟩ => ⟨S_, .f32⟩
  | .hbm, ⟨42, _⟩ => ⟨S_, .f32⟩
  | .hbm, ⟨43, _⟩ => ⟨S32768x8x128x16, .f32⟩
  | .hbm, ⟨44, _⟩ => ⟨S32768x8x128x16, .f32⟩
  | .hbm, ⟨45, _⟩ => ⟨S32768x8x128x16, .f32⟩
  | .hbm, ⟨46, _⟩ => ⟨S32768x8x128x16, .f32⟩
  | .hbm, ⟨47, _⟩ => ⟨S_, .f32⟩
  | .hbm, ⟨48, _⟩ => ⟨S32768x8x128, .f32⟩
  | .hbm, ⟨49, _⟩ => ⟨S32768x8x1x128, .f32⟩
  | .hbm, ⟨50, _⟩ => ⟨S32768x8x128, .f32⟩
  | .hbm, ⟨51, _⟩ => ⟨S32768x8x128x1, .f32⟩
  | .hbm, ⟨52, _⟩ => ⟨S32768x8x1x16, .f32⟩
  | .hbm, ⟨53, _⟩ => ⟨S32768x8x16, .f32⟩
  | .hbm, ⟨54, _⟩ => ⟨S32768x8x1x16, .f32⟩
  | .hbm, ⟨55, _⟩ => ⟨S32768x8x128x16, .f32⟩
  | .hbm, ⟨56, _⟩ => ⟨S32768x8x128x16, .f32⟩
  | .hbm, ⟨57, _⟩ => ⟨S32768x8x128x16, .i1⟩
  | .hbm, ⟨58, _⟩ => ⟨S_, .f32⟩
  | .hbm, ⟨59, _⟩ => ⟨S_, .f32⟩
  | .hbm, ⟨60, _⟩ => ⟨S32768x8x128x16, .f32⟩
  | .hbm, ⟨61, _⟩ => ⟨S32768x8x128x16, .f32⟩
  | .hbm, ⟨62, _⟩ => ⟨S32768x8x128x16, .f32⟩
  | .hbm, ⟨63, _⟩ => ⟨S32768x8x128x16, .f32⟩
  | .hbm, ⟨64, _⟩ => ⟨S_, .f32⟩
  | .hbm, ⟨65, _⟩ => ⟨S32768x8x128, .f32⟩
  | .hbm, ⟨66, _⟩ => ⟨S32768x8x1x128, .f32⟩
  | .hbm, ⟨67, _⟩ => ⟨S32768x8x128, .f32⟩
  | .hbm, ⟨68, _⟩ => ⟨S32768x8x1x1, .f32⟩
  | .hbm, ⟨69, _⟩ => ⟨S32768x8x1, .f32⟩
  | .hbm, ⟨70, _⟩ => ⟨S32768x8x128, .f32⟩
  | .hbm, ⟨71, _⟩ => ⟨S32768x8x128, .f32⟩
  | .hbm, ⟨72, _⟩ => ⟨S32768x8x128, .f32⟩
  | .hbm, ⟨73, _⟩ => ⟨S_, .f32⟩
  | .hbm, ⟨74, _⟩ => ⟨S32768x8x1, .f32⟩
  | .hbm, ⟨75, _⟩ => ⟨S32768x8x1, .f32⟩
  | .hbm, ⟨76, _⟩ => ⟨S32768x8x128, .f32⟩
  | .hbm, ⟨77, _⟩ => ⟨S32768x8x128, .f32⟩
  | .hbm, ⟨78, _⟩ => ⟨S32768x8x1x128, .f32⟩
  | .hbm, ⟨79, _⟩ => ⟨S32768x8x128, .f32⟩
  | .hbm, ⟨80, _⟩ => ⟨S32768x8x1x1, .f32⟩
  | .hbm, ⟨81, _⟩ => ⟨S32768x8x1, .f32⟩
  | .hbm, ⟨82, _⟩ => ⟨S32768x8x128, .f32⟩
  | .hbm, ⟨83, _⟩ => ⟨S32768x8x128, .f32⟩
  | .hbm, ⟨84, _⟩ => ⟨S32768x8x128, .f32⟩
  | .hbm, ⟨85, _⟩ => ⟨S256x128x8x128, .f32⟩
  | .hbm, ⟨86, _⟩ => ⟨S8x256x128x128, .f32⟩
  | .hbm, ⟨87, _⟩ => ⟨S256x128x8x128, .f32⟩
  | .hbm, ⟨88, _⟩ => ⟨S8x256x128x128, .f32⟩
  | .hbm, ⟨89, _⟩ => ⟨S256x128x8x128, .f32⟩
  | .hbm, ⟨90, _⟩ => ⟨S8x256x128x128, .f32⟩
  | .hbm, ⟨91, _⟩ => ⟨S8x256x128x128, .bf16⟩
  | .hbm, ⟨92, _⟩ => ⟨S256x128x8x128, .f32⟩
  | .hbm, ⟨93, _⟩ => ⟨S8x256x128x128, .f32⟩
  | .hbm, ⟨94, _⟩ => ⟨S8x256x128x128, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values_0 : Ref sig .tc := ⟨.hbm, 19, rfl⟩
abbrev main_indices_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Hgrn.lean ====
abbrev S32768x6144 : Shape := ⟨2, ![32768, 6144]⟩
abbrev S1024 : Shape := ⟨1, ![1024]⟩
abbrev S1x1024 : Shape := ⟨2, ![1, 1024]⟩
abbrev S32768x1024 : Shape := ⟨2, ![32768, 1024]⟩
abbrev S128x512 : Shape := ⟨2, ![128, 512]⟩
abbrev S1x512 : Shape := ⟨2, ![1, 512]⟩
abbrev S4x128x128 : Shape := ⟨3, ![4, 128, 128]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 6
  | .vmem => 15
  | .smem => 0
  | _ => 0

abbrev bufTy : (tb : Table) → Fin (tcTables nBuf tb) → BufTy
  | .hbm, ⟨0, _⟩ => ⟨S32768x6144, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S32768x1024, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S128x512, .bf16⟩
  | .local _ .vmem, ⟨13, _⟩ => ⟨S128x512, .bf16⟩
  | .local _ .vmem, ⟨14, _⟩ => ⟨S4x128x128, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c10_i32 : BitVec 32 := 10#32
  let v2 : BitVec 32 := Scalar.addi c10_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Proof.Attend.lean ====
/- One head's attention of one query to the memory, as a formula over the extended reals. -/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Attend

/-- The scaled score of memory slot `j` for the query `q`. -/
def score (q : Fin 512 → EReal) (K : Fin 256 → Fin 512 → EReal) (j : Fin 256) : EReal :=
  (∑ d : Fin 512, q d * K j d) * Ideal.ofBits .f32 0x3D3504F3#32

/-- The largest of the scores (starting from the least value). -/
def peak (s : Fin 256 → EReal) : EReal := Finset.univ.fold max (Ideal.ofBits .f32 0xFF800000#32) s

/-- The softmax weight of slot `j`. -/
def weight (s : Fin 256 → EReal) (j : Fin 256) : EReal :=
  Ideal.div (Ideal.exp (s j - peak s)) (∑ l : Fin 256, Ideal.exp (s l - peak s))

/-- The weighted sum of the values. -/
def attend (q : Fin 512 → EReal) (K : Fin 256 → Fin 512 → EReal) (V : Fin 256 → EReal) : EReal :=
  ∑ j : Fin 256, weight (score q K) j * V j

/-- Taking the maximum with the starting value once more changes nothing. -/
theorem max_peak (s : Fin 256 → EReal) : max (Ideal.ofBits .f32 0xFF800000#32) (peak s) = peak s :=
  max_eq_right ((Finset.le_fold_max _).2 (Or.inl le_rfl))

/-- Attention depends on the query, the keys and the values entry by entry. -/
theorem attend_congr {q q' : Fin 512 → EReal} {K K' : Fin 256 → Fin 512 → EReal} {V V' : Fin 256 → EReal}
    (hq : ∀ d, q d = q' d) (hK : ∀ j d, K j d = K' j d) (hV : ∀ j, V j = V' j) : attend q K V = attend q' K' V' := by
  rw [funext hq, funext fun j => funext (hK j), funext hV]

end Cert.Attend

end
-- ==== Proof.XattnPay.lean ====
/- What the attention kernel's body stores for each head, read at one entry. -/
module

public import proofs.«01_k».proof.Proof.Gen.KernelIdeal.Skeleton
public import proofs.«01_k».proof.Proof.Attend
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attend

/-- Head 0: the entry at row `a`, column `b` is the attention of row `a`'s query to the memory block. -/
theorem head0 (x : FVec Ideal S512x2048 .bf16) (w : FVec Ideal S2048x2048 .bf16) (k v : FVec Ideal S256x512 .bf16) (a : Fin 512) (b : Fin 512) :
    k0_pay3 (F := Ideal) x w k v (ix2 a b)
      = attend (fun d => ∑ e : Fin 2048, x (ix2 a e) * w (ix2 e (⟨d.val, by omega⟩ : Fin 2048))) (fun j d => k (ix2 j d)) (fun j => v (ix2 j b)) := by
  pointwise [k0_pay1, k0_pay2, k0_pay3, k0_pay4, k0_pay5, k0_pay6, k0_pay7, k0_pay8, attend, weight, peak, score]

/-- Head 1: the entry at row `a`, column `b` is the attention of row `a`'s query to the memory block. -/
theorem head1 (x : FVec Ideal S512x2048 .bf16) (w : FVec Ideal S2048x2048 .bf16) (k v : FVec Ideal S256x512 .bf16) (a : Fin 512) (b : Fin 512) :
    k0_pay6 (F := Ideal) (k0_pay4 x w k) (k0_pay5 x w k) v (ix2 a b)
      = attend (fun d => ∑ e : Fin 2048, x (ix2 a e) * w (ix2 e (⟨512 + d.val, by omega⟩ : Fin 2048))) (fun j d => k (ix2 j d)) (fun j => v (ix2 j b)) := by
  pointwise [k0_pay1, k0_pay2, k0_pay3, k0_pay4, k0_pay5, k0_pay6, k0_pay7, k0_pay8, attend, weight, peak, score]

/-- Head 2: the entry at row `a`, column `b` is the attention of row `a`'s query to the memory block. -/
theorem head2 (x : FVec Ideal S512x2048 .bf16) (w : FVec Ideal S2048x2048 .bf16) (k v : FVec Ideal S256x512 .bf16) (a : Fin 512) (b : Fin 512) :
    k0_pay7 (F := Ideal) (k0_pay2 x w) k v (ix2 a b)
      = attend (fun d => ∑ e : Fin 2048, x (ix2 a e) * w (ix2 e (⟨1024 + d.val, by omega⟩ : Fin 2048))) (fun j d => k (ix2 j d)) (fun j => v (ix2 j b)) := by
  pointwise [k0_pay1, k0_pay2, k0_pay3, k0_pay4, k0_pay5, k0_pay6, k0_pay7, k0_pay8, attend, weight, peak, score]

/-- Head 3: the entry at row `a`, column `b` is the attention of row `a`'s query to the memory block. -/
theorem head3 (x : FVec Ideal S512x2048 .bf16) (w : FVec Ideal S2048x2048 .bf16) (k v : FVec Ideal S256x512 .bf16) (a : Fin 512) (b : Fin 512) :
    k0_pay1 (F := Ideal) (k0_pay8 (k0_pay2 x w) k) (Scalar.ofBits .f32 0x3D3504F3#32) v (ix2 a b)
      = attend (fun d => ∑ e : Fin 2048, x (ix2 a e) * w (ix2 e (⟨1536 + d.val, by omega⟩ : Fin 2048))) (fun j d => k (ix2 j d)) (fun j => v (ix2 j b)) := by
  pointwise [k0_pay1, k0_pay2, k0_pay3, k0_pay4, k0_pay5, k0_pay6, k0_pay7, k0_pay8, attend, weight, peak, score]

end Cert.KernelIdeal.Value

end
-- ==== Proof.XattnRef.lean ====
/- What the reference's memory attention computes, read at one entry. -/
module

public import proofs.«01_k».proof.Proof.Gen.ReferenceIdeal.Read
public import proofs.«01_k».proof.Proof.Attend
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Cert.ReferenceIdeal.Read Cert.Attend

/-- The projected query of token `s` of sequence `b` at channel `e`. -/
def query (X : FVec Ideal S16x2048x2048 .f32) (W : FVec Ideal S2048x2048 .f32) (b : Fin 16) (s : Fin 2048) (e : Fin 2048) : EReal :=
  ∑ k : Fin 2048, X (ix3 b s k) * W (ix2 k e)

/-- Channel `d` of head `h`. -/
def chan (h : Fin 4) (d : Fin 512) : Fin 2048 := ⟨h.val * 512 + d.val, by omega⟩

/-- The scores of token `s` of sequence `b` in head `h`. -/
def scores (X : FVec Ideal S16x2048x2048 .f32) (W : FVec Ideal S2048x2048 .f32) (KV : FVec Ideal S16x256x4096 .f32) (b : Fin 16) (h : Fin 4) (s : Fin 2048) (l : Fin 256) : EReal :=
  score (fun d => query X W b s (chan h d)) (fun j d => KV (ix3 b j (⟨(chan h d).val, by omega⟩ : Fin 4096))) l

/-- The reference's scaled scores, at one entry. -/
theorem scores_apply (X : FVec Ideal S16x2048x2048 .f32) (W : FVec Ideal S2048x2048 .f32) (KV : FVec Ideal S16x256x4096 .f32) (b : Fin 16) (h : Fin 4) (s : Fin 2048) (l : Fin 256) :
    val_main_v8 (F := Ideal) X W KV (ix4 b h s l) = scores X W KV b h s l := by
  pointwise [val_main_v8, val_main_v7, val_main_cst, val_main_v6, val_main_v4, val_main_v2, val_main_v1, val_main_v0, scores, score, query, chan]

/-- A maximum over the last axis, at one entry, is the maximum over that axis's entries. -/
theorem reduce_max_apply (y : FVec Ideal S16x4x2048x256 .f32) (z : FVec Ideal S_ .f32) (b : Fin 16) (h : Fin 4) (s : Fin 2048) :
    Host.reduce FloatOps.maximumf y z reducesTo_S16x4x2048x256_S16x4x2048_d3 h_S_ (ix3 b h s)
      = Finset.univ.fold max (z (Shape.Idx.first h_S_)) (fun l : Fin 256 => y (ix4 b h s l)) := by
  pointwise

/-- The reference's largest score, at one entry. -/
theorem peak_apply (X : FVec Ideal S16x2048x2048 .f32) (W : FVec Ideal S2048x2048 .f32) (KV : FVec Ideal S16x256x4096 .f32) (b : Fin 16) (h : Fin 4) (s : Fin 2048) :
    val_main_v11 (F := Ideal) X W KV (ix3 b h s) = peak (scores X W KV b h s) := by
  rw [val_main_v11_apply, val_main_v10_apply, val_main_cst_1_apply]
  unfold val_main_v9
  rw [reduce_max_apply, val_main_cst_0_apply]
  refine Eq.trans ?_ (max_peak _)
  refine congrArg (max _) ?_
  exact congrArg (fun f => Finset.univ.fold max _ f) (funext fun l => scores_apply X W KV b h s l)

/-- The reference's attention weights, at one entry. -/
theorem weight_apply (X : FVec Ideal S16x2048x2048 .f32) (W : FVec Ideal S2048x2048 .f32) (KV : FVec Ideal S16x256x4096 .f32) (b : Fin 16) (h : Fin 4) (s : Fin 2048) (l : Fin 256) :
    val_main_v19 (F := Ideal) X W KV (ix4 b h s l) = weight (scores X W KV b h s) l := by
  pointwise [val_main_v19, val_main_v18, val_main_v17, val_main_v16, val_main_cst_2, val_main_v15, val_main_v14, val_main_v13, val_main_v12, weight, scores_apply, peak_apply]

/-- The reference's result: the entry of token `s` of sequence `b` at channel `d` of head `h`. -/
theorem result_apply (X : FVec Ideal S16x2048x2048 .f32) (W : FVec Ideal S2048x2048 .f32) (KV : FVec Ideal S16x256x4096 .f32) (b : Fin 16) (h : Fin 4) (s : Fin 2048) (d : Fin 512) :
    val_main_v21 (F := Ideal) X W KV (ix4 b s h d) = attend (fun d => query X W b s (chan h d)) (fun j d => KV (ix3 b j (⟨(chan h d).val, by omega⟩ : Fin 4096)))
      (fun j => KV (ix3 b j (⟨2048 + (chan h d).val, by omega⟩ : Fin 4096))) := by
  pointwise [val_main_v21, val_main_v20, val_main_v5, val_main_v3, weight_apply, attend]
  exact Finset.sum_congr rfl fun x _ => mul_comm _ _

/-- The reference's array, tokens by channels, as a formula. -/
def REF (X : FVec Ideal S16x2048x2048 .f32) (W : FVec Ideal S2048x2048 .f32) (KV : FVec Ideal S16x256x4096 .f32) : FVec Ideal S32768x2048 .bf16 := val_main_v23 (F := Ideal) X W KV

/-- One entry of the reference's array: token `i`'s attention at channel `c`. -/
theorem ref_apply (X : FVec Ideal S16x2048x2048 .f32) (W : FVec Ideal S2048x2048 .f32) (KV : FVec Ideal S16x256x4096 .f32) (i : Fin 32768) (h : Fin 4) (d : Fin 512) :
    REF X W KV (ix2 i (chan h d)) = attend (fun d => query X W (⟨i.val / 2048, by omega⟩ : Fin 16) (⟨i.val % 2048, by omega⟩ : Fin 2048) (chan h d))
      (fun j d => KV (ix3 (⟨i.val / 2048, by omega⟩ : Fin 16) j (⟨(chan h d).val, by omega⟩ : Fin 4096)))
      (fun j => KV (ix3 (⟨i.val / 2048, by omega⟩ : Fin 16) j (⟨2048 + (chan h d).val, by omega⟩ : Fin 4096))) := by
  rw [← result_apply]
  unfold REF
  rw [val_main_v23_apply, val_main_v22_apply]
  refine congrArg (val_main_v21 (F := Ideal) X W KV) (funext fun a => ?_)
  have hh := h.isLt
  have hd := d.isLt
  match a with
  | ⟨0, _⟩ => exact Fin.ext (show (i.val * 2048 + (h.val * 512 + d.val)) / 4194304 = i.val / 2048 by omega)
  | ⟨1, _⟩ => exact Fin.ext (show (i.val * 2048 + (h.val * 512 + d.val)) / 2048 % 2048 = i.val % 2048 by omega)
  | ⟨2, _⟩ => exact Fin.ext (show (i.val * 2048 + (h.val * 512 + d.val)) / 512 % 4 = h.val by omega)
  | ⟨3, _⟩ => exact Fin.ext (show (i.val * 2048 + (h.val * 512 + d.val)) % 512 = d.val by omega)

end Cert.ReferenceIdeal.Value

end
-- ==== Proof.XattnValue.lean ====
/- The attention kernel's result array is the reference's. -/
module

public import proofs.«01_k».proof.Proof.Gen.KernelIdeal.Frame
public import proofs.«01_k».proof.Proof.XattnPay
public import proofs.«01_k».proof.Proof.XattnRef
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attend
open Cert.ReferenceIdeal.Value (REF query chan ref_apply)

variable (m : (ℓ : Loc nD τ sig) → Buf (Elt Ideal) ℓ)

/-- The windows' block indices at a grid point: a point is a sequence and a quarter of its tokens. -/
theorem idx_val : ∀ t : Fin cfg0.N, win0_0.index t = ![t.val / 4 * 4 + t.val % 4, 0] ∧ win0_1.index t = ![0, 0]
    ∧ win0_2.index t = ![t.val / 4, 0] ∧ win0_3.index t = ![t.val / 4, 1]
    ∧ win0_4.index t = ![t.val / 4 * 4 + t.val % 4, 0] :=
  (by decide +kernel : ∀ t : Fin grid0.N, _)

/-- The sequence a grid point works on. -/
def seqOf (t : Fin cfg0.N) : Fin 16 := ⟨t.val / 4, by have ht : t.val < 64 := t.isLt; omega⟩

/-- The position in its sequence of row `a` of a grid point's block of tokens. -/
def posOf (t : Fin cfg0.N) (a : Fin 512) : Fin 2048 := ⟨t.val % 4 * 512 + a.val, by omega⟩

/-- The row of the result where row `a` of a grid point's block lies. -/
def rowOf (t : Fin cfg0.N) (a : Fin 512) : Fin 32768 := ⟨(t.val / 4 * 4 + t.val % 4) * 512 + a.val, by have ht : t.val < 64 := t.isLt; omega⟩

/-- The block of tokens, read at one entry. -/
theorem tokens_apply (c : Dev nD) (t : Fin cfg0.N) (a : Fin 512) (e : Fin 2048) :
    (show EReal from iblk m c 0 t (ix2 a e)) = m ((c : Thread nD τ).loc main_arg0) (ix3 (seqOf t) (posOf t a) e) := by
  have ht : t.val < 64 := t.isLt
  unfold seqOf posOf
  blk_point [iblk, V, idx_val t]

/-- The block of query weights is the whole matrix. -/
theorem weights_apply (c : Dev nD) (t : Fin cfg0.N) (e : Fin 2048) (f : Fin 2048) :
    (show EReal from iblk m c 1 t (ix2 e f)) = m ((c : Thread nD τ).loc main_arg1) (ix2 e f) := by
  have ht : t.val < 64 := t.isLt
  blk_point [iblk, V, idx_val t]

/-- The block of keys, read at one entry. -/
theorem keys_apply (c : Dev nD) (t : Fin cfg0.N) (j : Fin 256) (f : Fin 2048) :
    (show EReal from iblk m c 2 t (ix2 j f)) = m ((c : Thread nD τ).loc main_arg2) (ix3 (seqOf t) j (⟨f.val, by omega⟩ : Fin 4096)) := by
  have ht : t.val < 64 := t.isLt
  unfold seqOf
  blk_point [iblk, V, idx_val t]

/-- The block of values, read at one entry. -/
theorem values_apply (c : Dev nD) (t : Fin cfg0.N) (j : Fin 256) (f : Fin 2048) :
    (show EReal from iblk m c 3 t (ix2 j f)) = m ((c : Thread nD τ).loc main_arg2) (ix3 (seqOf t) j (⟨2048 + f.val, by omega⟩ : Fin 4096)) := by
  have ht : t.val < 64 := t.isLt
  unfold seqOf
  blk_point [iblk, V, idx_val t]

/-- The attention computed from a grid point's blocks for head `h` is the reference's entry at the block's place. -/
theorem attend_blocks (c : Dev nD) (t : Fin cfg0.N) (a : Fin 512) (h : Fin 4) (d : Fin 512) :
    attend (fun d => ∑ e : Fin 2048, (show EReal from iblk m c 0 t (ix2 a e)) * (show EReal from iblk m c 1 t (ix2 e (chan h d))))
        (fun j d => iblk m c 2 t (ix2 j (chan h d))) (fun j => iblk m c 3 t (ix2 j (chan h d)))
      = REF (m ((c : Thread nD τ).loc main_arg0)) (m ((c : Thread nD τ).loc main_arg1)) (m ((c : Thread nD τ).loc main_arg2)) (ix2 (rowOf t a) (chan h d)) := by
  have ht : t.val < 64 := t.isLt
  rw [ref_apply]
  have hs : (⟨(rowOf t a).val / 2048, by have := (rowOf t a).isLt; omega⟩ : Fin 16) = seqOf t := Fin.ext (by simp only [rowOf, seqOf]; omega)
  have hp : (⟨(rowOf t a).val % 2048, by omega⟩ : Fin 2048) = posOf t a := Fin.ext (by simp only [rowOf, posOf]; omega)
  rw [hs, hp]
  refine attend_congr (fun d => Finset.sum_congr rfl fun e _ => ?_) (fun j d => keys_apply m c t j _) (fun j => values_apply m c t j _)
  rw [tokens_apply, weights_apply]

/-- The place in the result of the entry at row `a`, channel `d` of head `h` of a grid point's block. -/
theorem place (t : Fin cfg0.N) (y : S512x2048.Idx) (a : Fin 512) (h : Fin 4) (d : Fin 512) (h0 : (y 0).val = a.val) (h1 : (y 1).val = h.val * 512 + d.val) :
    ((cfg0.win 4).blk t).view.emb y = ix2 (rowOf t a) (chan h d) := by
  unfold rowOf chan
  blk_ext [idx_val t]

/-- What one grid point stores is the reference's array at the place where the block lies. -/
theorem point (c : Dev nD) (t : Fin cfg0.N) (y) :
    out0_4 (iblk m c 0 t) (iblk m c 1 t) (iblk m c 2 t) (iblk m c 3 t) y
      = REF (m ((c : Thread nD τ).loc main_arg0)) (m ((c : Thread nD τ).loc main_arg1)) (m ((c : Thread nD τ).loc main_arg2)) (((cfg0.win 4).blk t).view.emb y) := by
  unfold_out out0_4
  canon_tiles x h
  · idx_vars x
    rw [place t y x0 3 x1 h0 (by show _ = 3 * 512 + _; omega), ← attend_blocks]
    refine (head3 _ _ _ _ x0 x1).trans (attend_congr (fun d => Finset.sum_congr rfl fun e _ => congrArg₂ (· * ·) ?_ ?_) (fun j d => ?_) (fun j => ?_))
    · pointwise
    · pointwise
      exact congrArg (fun z : Fin 2048 => iblk m c 1 t (ix2 e z)) (Fin.ext (by show 1536 + d.val = 3 * 512 + d.val; omega))
    · pointwise
      exact congrArg (fun z : Fin 2048 => iblk m c 2 t (ix2 j z)) (Fin.ext (by show 1536 + d.val = 3 * 512 + d.val; omega))
    · pointwise
      exact congrArg (fun z : Fin 2048 => iblk m c 3 t (ix2 j z)) (Fin.ext (by show 1536 + x1.val = 3 * 512 + x1.val; omega))
  · idx_vars x
    rw [place t y x0 2 x1 h0 (by show _ = 2 * 512 + _; omega), ← attend_blocks]
    refine (head2 _ _ _ _ x0 x1).trans (attend_congr (fun d => Finset.sum_congr rfl fun e _ => congrArg₂ (· * ·) ?_ ?_) (fun j d => ?_) (fun j => ?_))
    · pointwise
    · pointwise
      exact congrArg (fun z : Fin 2048 => iblk m c 1 t (ix2 e z)) (Fin.ext (by show 1024 + d.val = 2 * 512 + d.val; omega))
    · pointwise
      exact congrArg (fun z : Fin 2048 => iblk m c 2 t (ix2 j z)) (Fin.ext (by show 1024 + d.val = 2 * 512 + d.val; omega))
    · pointwise
      exact congrArg (fun z : Fin 2048 => iblk m c 3 t (ix2 j z)) (Fin.ext (by show 1024 + x1.val = 2 * 512 + x1.val; omega))
  · idx_vars x
    rw [place t y x0 1 x1 h0 (by show _ = 1 * 512 + _; omega), ← attend_blocks]
    refine (head1 _ _ _ _ x0 x1).trans (attend_congr (fun d => Finset.sum_congr rfl fun e _ => congrArg₂ (· * ·) ?_ ?_) (fun j d => ?_) (fun j => ?_))
    · pointwise
    · pointwise
      exact congrArg (fun z : Fin 2048 => iblk m c 1 t (ix2 e z)) (Fin.ext (by show 512 + d.val = 1 * 512 + d.val; omega))
    · pointwise
      exact congrArg (fun z : Fin 2048 => iblk m c 2 t (ix2 j z)) (Fin.ext (by show 512 + d.val = 1 * 512 + d.val; omega))
    · pointwise
      exact congrArg (fun z : Fin 2048 => iblk m c 3 t (ix2 j z)) (Fin.ext (by show 512 + x1.val = 1 * 512 + x1.val; omega))
  · idx_vars x
    rw [place t y x0 0 x1 h0 (by show _ = 0 * 512 + _; omega), ← attend_blocks]
    refine (head0 _ _ _ _ x0 x1).trans (attend_congr (fun d => Finset.sum_congr rfl fun e _ => congrArg₂ (· * ·) ?_ ?_) (fun j d => ?_) (fun j => ?_))
    · pointwise
    · pointwise
      exact congrArg (fun z : Fin 2048 => iblk m c 1 t (ix2 e z)) (Fin.ext (by show d.val = 0 * 512 + d.val; omega))
    · pointwise
      exact congrArg (fun z : Fin 2048 => iblk m c 2 t (ix2 j z)) (Fin.ext (by show d.val = 0 * 512 + d.val; omega))
    · pointwise
      exact congrArg (fun z : Fin 2048 => iblk m c 3 t (ix2 j z)) (Fin.ext (by show x1.val = 0 * 512 + x1.val; omega))

/-- The result array after the run is the reference's array. -/
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  exact point m c t y

/-- The kernel's result and the reference's are the same array over the extended reals. -/
theorem algebraic : Cert.algebraic_KernelIdeal_ReferenceIdeal := by
  pair_intro
  · run_from Cert.KernelIdeal.Gen.run_main m g
  · hlo_run
    exact (Cert.KernelIdeal.Value.final m c).symm

end Cert.KernelIdeal.Value

end
-- ==== Proof.ConvPay.lean ====
/- What the short convolution's body stores, read at one entry. -/
module

public import proofs.«01_k».proof.Proof.Gen.ConvIdeal.Skeleton
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

/-- Row `a` of a block of tokens times column `b` of a block of weights. -/
def dotAt (x : FVec Ideal S512x2048 .bf16) (w : FVec Ideal S2048x512 .bf16) (a b : Fin 512) : EReal :=
  ∑ k : Fin 2048, x (ix2 a k) * w (ix2 k b)

/-- The gated channel `b` of the block's token `a`. -/
def gated (x : FVec Ideal S512x2048 .bf16) (wc wx : FVec Ideal S2048x512 .bf16) (a b : Fin 512) : EReal :=
  dotAt x wc a b * dotAt x wx a b

/-- The gated channel one token back: inside the block, or the last carried row. -/
def back1 (x : FVec Ideal S512x2048 .bf16) (wc wx : FVec Ideal S2048x512 .bf16) (p : FVec Ideal S8x512 .f32) (a b : Fin 512) : EReal :=
  if a.val = 0 then p (ix2 (7 : Fin 8) b) else gated x wc wx ⟨a.val - 1, by omega⟩ b

/-- The gated channel two tokens back: inside the block, or one of the last two carried rows. -/
def back2 (x : FVec Ideal S512x2048 .bf16) (wc wx : FVec Ideal S2048x512 .bf16) (p : FVec Ideal S8x512 .f32) (a b : Fin 512) : EReal :=
  if a.val = 0 then p (ix2 (6 : Fin 8) b) else if a.val = 1 then p (ix2 (7 : Fin 8) b) else gated x wc wx ⟨a.val - 2, by omega⟩ b

/-- A choice on whether a row number is a given small number. -/
theorem select_row (a : Fin 512) (n : ℕ) (hn : n < 512) (u v : EReal) :
    Scalar.select (IntOp.cmpi CmpIPredicate.eq (BitVec.ofNat 32 a.val) (BitVec.ofNat 32 n)) u v = if a.val = n then u else v := by
  have h : (BitVec.ofNat 32 a.val = BitVec.ofNat 32 n) ↔ a.val = n := by
    rw [← BitVec.toNat_inj, BitVec.toNat_ofNat, BitVec.toNat_ofNat]
    omega
  by_cases e : a.val = n
  · rw [if_pos e, e]
    simp [IntOp.cmpi, Scalar.select]
  · rw [if_neg e]
    have h' : ¬ BitVec.ofNat 32 a.val = BitVec.ofNat 32 n := fun g => e (h.1 g)
    have hb : (BitVec.ofNat 32 a.val == BitVec.ofNat 32 n) = false := beq_false_of_ne h'
    simp [IntOp.cmpi, Scalar.select, hb]

/-- What the body stores at one entry: the output gate times the three-tap convolution. -/
theorem pay_apply (x : FVec Ideal S512x2048 .bf16) (wb wc wx : FVec Ideal S2048x512 .bf16) (cw p : FVec Ideal S8x512 .f32) (a b : Fin 512) :
    k0_pay1 (F := Ideal) (k0_pay5 x wb) (k0_pay6 x wc wx) (k0_pay7 p) (k0_pay8 p) (iota .tc S512x512 32 [0] iota_S512x512_d0_w32) k0_pay9 (k0_pay10 x wc wx) (k0_pay11 p) cw (ix2 a b)
      = dotAt x wb a b * (cw (ix2 (0 : Fin 8) b) * back2 x wc wx p a b + cw (ix2 (1 : Fin 8) b) * back1 x wc wx p a b + cw (ix2 (2 : Fin 8) b) * gated x wc wx a b) := by
  pointwise [k0_pay1, k0_pay4, k0_pay5, k0_pay6, k0_pay7, k0_pay8, k0_pay9, k0_pay10, k0_pay11, dotAt, back1, back2, gated]
  rw [select_row a 0 (by omega), select_row a 0 (by omega), select_row a 1 (by omega)]
  have h1 : ¬ a.val = 0 → (⟨(a.val + 512 - 1) % 512, by omega⟩ : Fin 512) = ⟨a.val - 1, by omega⟩ := fun h => Fin.ext (by show (a.val + 512 - 1) % 512 = a.val - 1; omega)
  have h2 : ¬ a.val = 0 → ¬ a.val = 1 → (⟨(a.val + 512 - 2) % 512, by omega⟩ : Fin 512) = ⟨a.val - 2, by omega⟩ := fun h h' => Fin.ext (by show (a.val + 512 - 2) % 512 = a.val - 2; omega)
  by_cases e0 : a.val = 0
  · simp only [e0, if_true]
  · by_cases e1 : a.val = 1
    · simp only [if_neg e0, if_pos e1, h1 e0]
    · simp only [if_neg e0, if_neg e1, h1 e0, h2 e0 e1]

/-- What the body leaves for the next grid point: the last eight gated rows. -/
theorem carry_apply (x : FVec Ideal S512x2048 .bf16) (wc wx : FVec Ideal S2048x512 .bf16) (r : Fin 8) (b : Fin 512) :
    k0_pay2 (F := Ideal) (k0_pay6 x wc wx) (ix2 r b) = gated x wc wx ⟨504 + r.val, by omega⟩ b := by
  pointwise [k0_pay2, k0_pay4, k0_pay6, dotAt, gated]

/-- At the start of a sequence the carried rows are zero. -/
theorem carry_start (r : Fin 8) (b : Fin 512) : k0_pay3 (F := Ideal) (ix2 r b) = 0 := by
  pointwise [k0_pay3]

end Cert.ConvIdeal.Value

end
-- ==== Proof.ConvTaps.lean ====
/- The convolution's three taps, set into the first rows of a zero array, read back. -/
module

public import proofs.«01_k».proof.Proof.Gen.ConvIdeal.Frame
public import Idealize.ShloMosaic.Lib.Pipeline.ValueKit
public import Idealize.ShloMosaic.Lib.Routing.OpsOne
public import Idealize.ShloMosaic.Lib.Routing.OpsSet

@[expose] public section

set_option maxRecDepth 16384

noncomputable section

open Idealize.ShloMosaic

namespace Cert.ConvIdeal.Value

open Cert.ConvIdeal

/-- With the start word zero, every update lands at its own row and column. -/
theorem lands_own (idx : IVec S1 32) (h : ∀ z, idx z = 0#32) (r' : Fin 3) (b' : Fin 2048) (r : Fin 8) (b : Fin 2048) :
    scatter_S8x2048_S1_S3x2048_01_n_0_0.resultIdx? (ix2 r' b') idx = some (ix2 r b) ↔ r'.val = r.val ∧ b' = b := by
  have s0 : ∀ a, scatter_S8x2048_S1_S3x2048_01_n_0_0.start (ix2 r' b') idx a = 0 := fun a => by
    unfold ScatterDims.start
    split
    · rw [h]; rfl
    · rfl
  have w0 : scatter_S8x2048_S1_S3x2048_01_n_0_0.window (ix2 r' b') 0 = r'.val := rfl
  have w1 : scatter_S8x2048_S1_S3x2048_01_n_0_0.window (ix2 r' b') 1 = b'.val := rfl
  have key := Routing.resultIdx?_ix2 scatter_S8x2048_S1_S3x2048_01_n_0_0 (ix2 r' b') idx r b
  rw [s0, s0, w0, w1] at key
  refine key.trans ?_
  rw [Fin.ext_iff]
  omega

/-- Rows written from the start word zero, read at one of them: the update's row. -/
theorem set_rows (x : FVec Ideal S8x2048 .f32) (idx : IVec S1 32) (h : ∀ z, idx z = 0#32) (u : FVec Ideal S3x2048 .f32) (r : Fin 8) (hr : r.val < 3) (b : Fin 2048) :
    Host.scatter scatter_S8x2048_S1_S3x2048_01_n_0_0 (fun _ q => q) x idx u (ix2 r b) = u (ix2 (⟨r.val, hr⟩ : Fin 3) b) := by
  refine Routing.scatter_set_hit _ x idx u _ _ (fun k hk => ?_) (ix2 (⟨r.val, hr⟩ : Fin 3) b) ((lands_own idx h _ b r b).2 ⟨rfl, rfl⟩)
  have e : k = ix2 (k 0) (k 1) := ValueIdx.eq_ix2 k
  rw [e] at hk ⊢
  have q := (lands_own idx h (k 0) (k 1) r b).1 hk
  rw [q.2]
  exact congrArg (fun z : Fin 3 => u (ix2 z b)) (Fin.ext q.1)

end Cert.ConvIdeal.Value
-- ==== Proof.ConvRef.lean ====
/- What the reference's gated three-tap convolution computes, read at one entry. -/
module

public import proofs.«01_k».proof.Proof.Gen.ConvRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvRefIdeal.Value

open Cert.ConvRefIdeal Cert.ConvRefIdeal.Gen Cert.ConvRefIdeal.Read

/-- The projected channel `e` of token `s` of sequence `b`. -/
def proj (X : FVec Ideal S16x2048x2048 .f32) (W : FVec Ideal S2048x6144 .f32) (b : Fin 16) (s : Fin 2048) (e : Fin 6144) : EReal := ∑ k : Fin 2048, X (ix3 b s k) * W (ix2 k e)

/-- The gated channel `j` of token `s` of sequence `b`: the input gate times the input. -/
def gate (X : FVec Ideal S16x2048x2048 .f32) (W : FVec Ideal S2048x6144 .f32) (b : Fin 16) (s : Fin 2048) (j : Fin 2048) : EReal :=
  proj X W b s ⟨2048 + j.val, by omega⟩ * proj X W b s ⟨4096 + j.val, by omega⟩

/-- The gated channel one token back, zero before the sequence. -/
def gate1 (X : FVec Ideal S16x2048x2048 .f32) (W : FVec Ideal S2048x6144 .f32) (b : Fin 16) (s : Fin 2048) (j : Fin 2048) : EReal := if s.val < 1 then 0 else gate X W b ⟨s.val - 1, by omega⟩ j

/-- The gated channel two tokens back, zero before the sequence. -/
def gate2 (X : FVec Ideal S16x2048x2048 .f32) (W : FVec Ideal S2048x6144 .f32) (b : Fin 16) (s : Fin 2048) (j : Fin 2048) : EReal := if s.val < 2 then 0 else gate X W b ⟨s.val - 2, by omega⟩ j

/-- The reference's array, tokens by channels. -/
def REF (X : FVec Ideal S16x2048x2048 .f32) (W : FVec Ideal S2048x6144 .f32) (cw : FVec Ideal S3x2048 .f32) : FVec Ideal S32768x2048 .bf16 := val_main_v28 (F := Ideal) X W cw

/-- The reference's projections, at one entry. -/
theorem proj_apply (X : FVec Ideal S16x2048x2048 .f32) (W : FVec Ideal S2048x6144 .f32) (b : Fin 16) (s : Fin 2048) (e : Fin 6144) : val_main_v0 (F := Ideal) X W (ix3 b s e) = proj X W b s e := by
  pointwise [val_main_v0, proj]

/-- The reference's padded gated channels, at one entry. -/
theorem padded_apply (X : FVec Ideal S16x2048x2048 .f32) (W : FVec Ideal S2048x6144 .f32) (b : Fin 16) (s : Fin 2050) (j : Fin 2048) :
    val_main_v5 (F := Ideal) X W (ix3 b s j) = if h : s.val < 2 then 0 else gate X W b ⟨s.val - 2, by omega⟩ j := by
  pointwise [val_main_v5, val_main_call0_v0, val_main_c, val_main_v4, val_main_v3, val_main_v2, proj_apply, gate]
  have h0 : (FloatOps.sitofp (F := Ideal) .f32 0#32 : EReal) = 0 := by simp [FloatOps.sitofp]
  have hs := s.isLt
  by_cases h : s.val < 2
  · rw [dif_neg (by omega), dif_pos h]
    exact h0
  · rw [dif_pos (by omega), dif_neg h]

/-- The reference's result before the last reshape, at one entry. -/
theorem result_apply (X : FVec Ideal S16x2048x2048 .f32) (W : FVec Ideal S2048x6144 .f32) (cw : FVec Ideal S3x2048 .f32) (b : Fin 16) (s : Fin 2048) (j : Fin 2048) :
    val_main_v26 (F := Ideal) X W cw (ix3 b s j)
      = proj X W b s ⟨j.val, by omega⟩ * (cw (ix2 (0 : Fin 3) j) * gate2 X W b s j + cw (ix2 (1 : Fin 3) j) * gate1 X W b s j + cw (ix2 (2 : Fin 3) j) * gate X W b s j) := by
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v1, proj_apply]
  rw [padded_apply, padded_apply, padded_apply]
  have e2 : (if h : s.val < 2 then 0 else gate X W b ⟨s.val - 2, by omega⟩ j) = gate2 X W b s j := by
    unfold gate2
    by_cases h : s.val < 2
    · rw [dif_pos h, if_pos h]
    · rw [dif_neg h, if_neg h]
  have e1 : (if h : 1 + s.val < 2 then 0 else gate X W b ⟨1 + s.val - 2, by omega⟩ j) = gate1 X W b s j := by
    unfold gate1
    by_cases h : s.val < 1
    · rw [dif_pos (by omega), if_pos h]
    · rw [dif_neg (by omega), if_neg h]
      exact congrArg (fun z : Fin 2048 => gate X W b z j) (Fin.ext (by show 1 + s.val - 2 = s.val - 1; omega))
  have e0 : (if h : 2 + s.val < 2 then 0 else gate X W b ⟨2 + s.val - 2, by omega⟩ j) = gate X W b s j := by
    rw [dif_neg (by omega)]
    exact congrArg (fun z : Fin 2048 => gate X W b z j) (Fin.ext (by show 2 + s.val - 2 = s.val; omega))
  exact congrArg₂ (· * ·) rfl (congrArg₂ (· + ·) (congrArg₂ (· + ·) (congrArg₂ (· * ·) rfl e2) (congrArg₂ (· * ·) rfl e1)) (congrArg₂ (· * ·) rfl e0))

/-- The reference's result, at one entry. -/
theorem ref_apply (X : FVec Ideal S16x2048x2048 .f32) (W : FVec Ideal S2048x6144 .f32) (cw : FVec Ideal S3x2048 .f32) (i : Fin 32768) (j : Fin 2048) :
    REF X W cw (ix2 i j) = val_main_v26 (F := Ideal) X W cw (ix3 (⟨i.val / 2048, by omega⟩ : Fin 16) (⟨i.val % 2048, by omega⟩ : Fin 2048) j) := by
  unfold REF
  rw [val_main_v28_apply, val_main_v27_apply]
  refine congrArg (val_main_v26 (F := Ideal) X W cw) (funext fun a => ?_)
  have hj := j.isLt
  match a with
  | ⟨0, _⟩ => exact Fin.ext (show (i.val * 2048 + j.val) / 4194304 = i.val / 2048 by omega)
  | ⟨1, _⟩ => exact Fin.ext (show (i.val * 2048 + j.val) / 2048 % 2048 = i.val % 2048 by omega)
  | ⟨2, _⟩ => exact Fin.ext (show (i.val * 2048 + j.val) % 2048 = j.val by omega)

end Cert.ConvRefIdeal.Value

end
-- ==== Proof.ConvValue.lean ====
/- The short convolution's result array is the reference's. -/
module

public import proofs.«01_k».proof.Proof.Gen.ConvIdeal.Frame
public import proofs.«01_k».proof.Proof.ConvPay
public import proofs.«01_k».proof.Proof.ConvTaps
public import proofs.«01_k».proof.Proof.ConvRef
public import proofs.«01_k».proof.Defs
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen
open Cert.ConvRefIdeal.Value (REF proj gate gate1 gate2 result_apply ref_apply)

variable (m : (ℓ : Loc nD τ sig) → Buf (Elt Ideal) ℓ)

/-- The windows' block indices at a grid point: a point is a tile of channels and then a tile of tokens. -/
theorem idx_val : ∀ t : Fin cfg0.N, win0_0.index t = ![t.val % 64, 0] ∧ win0_1.index t = ![0, t.val / 64] ∧ win0_2.index t = ![0, 4 + t.val / 64]
    ∧ win0_3.index t = ![0, 8 + t.val / 64] ∧ win0_4.index t = ![0, t.val / 64] ∧ win0_5.index t = ![t.val % 64, t.val / 64] :=
  (by decide +kernel : ∀ t : Fin grid0.N, _)

/-- The sequence a grid point works on. -/
def seqOf (t : Fin cfg0.N) : Fin 16 := ⟨t.val % 64 / 4, by omega⟩

/-- The position in its sequence of row `a` of a grid point's block. -/
def posOf (t : Fin cfg0.N) (a : Fin 512) : Fin 2048 := ⟨t.val % 4 * 512 + a.val, by omega⟩

/-- The channel of column `b` of a grid point's block. -/
def colOf (t : Fin cfg0.N) (b : Fin 512) : Fin 2048 := ⟨t.val / 64 * 512 + b.val, by have ht : t.val < 256 := t.isLt; omega⟩

/-- The row of the result where row `a` of a grid point's block lies. -/
def rowOf (t : Fin cfg0.N) (a : Fin 512) : Fin 32768 := ⟨t.val % 64 * 512 + a.val, by omega⟩

/-- The block of tokens, read at one entry. -/
theorem tokens_apply (c : Dev nD) (t : Fin cfg0.N) (a : Fin 512) (e : Fin 2048) :
    (show EReal from iblk m c 0 t (ix2 a e)) = (m ((c : Thread nD τ).loc main_arg0)) (ix3 (seqOf t) (posOf t a) e) := by
  have ht : t.val < 256 := t.isLt
  unfold seqOf posOf
  blk_point [iblk, V, idx_val t]

/-- The block of output-gate weights, read at one entry. -/
theorem wb_apply (c : Dev nD) (t : Fin cfg0.N) (k : Fin 2048) (b : Fin 512) :
    (show EReal from iblk m c 1 t (ix2 k b)) = (m ((c : Thread nD τ).loc main_arg1)) (ix2 k (⟨(colOf t b).val, by omega⟩ : Fin 6144)) := by
  have ht : t.val < 256 := t.isLt
  unfold colOf
  blk_point [iblk, V, idx_val t]

/-- The block of input-gate weights, read at one entry. -/
theorem wc_apply (c : Dev nD) (t : Fin cfg0.N) (k : Fin 2048) (b : Fin 512) :
    (show EReal from iblk m c 2 t (ix2 k b)) = (m ((c : Thread nD τ).loc main_arg1)) (ix2 k (⟨2048 + (colOf t b).val, by omega⟩ : Fin 6144)) := by
  have ht : t.val < 256 := t.isLt
  unfold colOf
  blk_point [iblk, V, idx_val t]

/-- The block of input weights, read at one entry. -/
theorem wx_apply (c : Dev nD) (t : Fin cfg0.N) (k : Fin 2048) (b : Fin 512) :
    (show EReal from iblk m c 3 t (ix2 k b)) = (m ((c : Thread nD τ).loc main_arg1)) (ix2 k (⟨4096 + (colOf t b).val, by omega⟩ : Fin 6144)) := by
  have ht : t.val < 256 := t.isLt
  unfold colOf
  blk_point [iblk, V, idx_val t]

/-- The block of convolution taps, read at one of its three filled rows. -/
theorem taps_apply (c : Dev nD) (t : Fin cfg0.N) (r : Fin 8) (hr : r.val < 3) (b : Fin 512) :
    (show EReal from iblk m c 4 t (ix2 r b)) = (m ((c : Thread nD τ).loc main_arg2)) (ix2 (⟨r.val, hr⟩ : Fin 3) (colOf t b)) := by
  have ht : t.val < 256 := t.isLt
  unfold colOf
  refine (?_ : _ = V m c main_v5 (ix2 r (⟨t.val / 64 * 512 + b.val, by omega⟩ : Fin 2048))).trans ?_
  · blk_point [iblk, idx_val t]
  · entry_read
    exact set_rows _ _ (fun _ => rfl) _ r hr _

/-- The output gate computed from a grid point's blocks. -/
theorem dot_blocks (c : Dev nD) (t : Fin cfg0.N) (a b : Fin 512) :
    dotAt (iblk m c 0 t) (iblk m c 1 t) a b = proj (m ((c : Thread nD τ).loc main_arg0)) (m ((c : Thread nD τ).loc main_arg1)) (seqOf t) (posOf t a) ⟨(colOf t b).val, by omega⟩ :=
  Finset.sum_congr rfl fun k _ => congrArg₂ (· * ·) (tokens_apply m c t a k) (wb_apply m c t k b)

/-- The gated channels computed from a grid point's blocks. -/
theorem gated_blocks (c : Dev nD) (t : Fin cfg0.N) (a b : Fin 512) :
    gated (iblk m c 0 t) (iblk m c 2 t) (iblk m c 3 t) a b = gate (m ((c : Thread nD τ).loc main_arg0)) (m ((c : Thread nD τ).loc main_arg1)) (seqOf t) (posOf t a) (colOf t b) :=
  congrArg₂ (· * ·) (Finset.sum_congr rfl fun k _ => congrArg₂ (· * ·) (tokens_apply m c t a k) (wc_apply m c t k b))
    (Finset.sum_congr rfl fun k _ => congrArg₂ (· * ·) (tokens_apply m c t a k) (wx_apply m c t k b))

/-- What a grid point leaves for the next: the last gated rows of its block. -/
theorem carry_eq (c : Dev nD) (t : Fin cfg0.N) : (outsAt0 m c t.val t.isLt).2 = k0_pay2 (F := Ideal) (k0_pay6 (iblk m c 0 t) (iblk m c 2 t) (iblk m c 3 t)) := by
  by_cases h0 : t.val % 4 = 0
  · rw [outsAt0_A m c t h0]
    funext y
    frame_out
  · rw [outsAt0_B m c t h0]
    funext y
    frame_out

/-- What the body stores from a grid point's blocks over carried rows `p`. -/
theorem body_apply (c : Dev nD) (t : Fin cfg0.N) (p : FVec Ideal S8x512 .f32) (a b : Fin 512)
    (h1 : back1 (iblk m c 0 t) (iblk m c 2 t) (iblk m c 3 t) p a b = gate1 (m ((c : Thread nD τ).loc main_arg0)) (m ((c : Thread nD τ).loc main_arg1)) (seqOf t) (posOf t a) (colOf t b))
    (h2 : back2 (iblk m c 0 t) (iblk m c 2 t) (iblk m c 3 t) p a b = gate2 (m ((c : Thread nD τ).loc main_arg0)) (m ((c : Thread nD τ).loc main_arg1)) (seqOf t) (posOf t a) (colOf t b)) :
    k0_pay1 (F := Ideal) (k0_pay5 (iblk m c 0 t) (iblk m c 1 t)) (k0_pay6 (iblk m c 0 t) (iblk m c 2 t) (iblk m c 3 t)) (k0_pay7 p) (k0_pay8 p)
        (iota .tc S512x512 32 [0] iota_S512x512_d0_w32) k0_pay9 (k0_pay10 (iblk m c 0 t) (iblk m c 2 t) (iblk m c 3 t)) (k0_pay11 p) (iblk m c 4 t) (ix2 a b)
      = REF (m ((c : Thread nD τ).loc main_arg0)) (m ((c : Thread nD τ).loc main_arg1)) (m ((c : Thread nD τ).loc main_arg2)) (ix2 (rowOf t a) (colOf t b)) := by
  refine (pay_apply _ _ _ _ _ _ a b).trans ?_
  rw [ref_apply, result_apply, h1, h2, dot_blocks, gated_blocks]
  have hs : (⟨(rowOf t a).val / 2048, by have := (rowOf t a).isLt; omega⟩ : Fin 16) = seqOf t := Fin.ext (by simp only [rowOf, seqOf]; omega)
  have hp : (⟨(rowOf t a).val % 2048, by omega⟩ : Fin 2048) = posOf t a := Fin.ext (by simp only [rowOf, posOf]; omega)
  rw [hs, hp]
  exact congrArg₂ (· * ·) rfl (congrArg₂ (· + ·) (congrArg₂ (· + ·) (congrArg₂ (· * ·) (taps_apply m c t 0 (by decide) b) rfl)
    (congrArg₂ (· * ·) (taps_apply m c t 1 (by decide) b) rfl)) (congrArg₂ (· * ·) (taps_apply m c t 2 (by decide) b) rfl))

/-- Inside a block the token before is the row before. -/
theorem gated_prev (c : Dev nD) (t : Fin cfg0.N) (a b : Fin 512) (n : ℕ) (hn : n ≤ a.val) :
    gated (iblk m c 0 t) (iblk m c 2 t) (iblk m c 3 t) ⟨a.val - n, by omega⟩ b
      = gate (m ((c : Thread nD τ).loc main_arg0)) (m ((c : Thread nD τ).loc main_arg1)) (seqOf t) ⟨(posOf t a).val - n, by omega⟩ (colOf t b) := by
  rw [gated_blocks]
  exact congrArg (fun z : Fin 2048 => gate (m ((c : Thread nD τ).loc main_arg0)) (m ((c : Thread nD τ).loc main_arg1)) (seqOf t) z (colOf t b)) (Fin.ext (by simp only [posOf]; omega))

/-- What a grid point at a sequence's start stores is the reference's array. -/
theorem start_eq (c : Dev nD) (t : Fin cfg0.N) (h0 : t.val % 4 = 0) (a b : Fin 512) :
    (outsAt0 m c t.val t.isLt).1 (ix2 a b) = REF (m ((c : Thread nD τ).loc main_arg0)) (m ((c : Thread nD τ).loc main_arg1)) (m ((c : Thread nD τ).loc main_arg2)) (ix2 (rowOf t a) (colOf t b)) := by
  rw [outsAt0_A m c t h0]
  frame_out
  have hp : (posOf t a).val = a.val := by simp only [posOf]; omega
  refine body_apply m c t (k0_pay3 (F := Ideal)) a b ?_ ?_
  · unfold back1 gate1
    by_cases e : a.val = 0
    · rw [if_pos e, if_pos (by omega), carry_start]
    · rw [if_neg e, if_neg (by omega)]
      exact gated_prev m c t a b 1 (by omega)
  · unfold back2 gate2
    by_cases e : a.val = 0
    · rw [if_pos e, if_pos (by omega), carry_start]
    · by_cases e' : a.val = 1
      · rw [if_neg e, if_pos e', if_pos (by omega), carry_start]
      · rw [if_neg e, if_neg e', if_neg (by omega)]
        exact gated_prev m c t a b 2 (by omega)

/-- The carried rows at a later point of a sequence are the gated channels just before its block. -/
theorem carried (c : Dev nD) (t s : Fin cfg0.N) (h0 : ¬ t.val % 4 = 0) (hs : s.val = t.val - 1) (r : Fin 8) (b : Fin 512) :
    (show EReal from (outsAt0 m c s.val s.isLt).2 (ix2 r b))
      = gate (m ((c : Thread nD τ).loc main_arg0)) (m ((c : Thread nD τ).loc main_arg1)) (seqOf t) ⟨t.val % 4 * 512 - 8 + r.val, by omega⟩ (colOf t b) := by
  rw [carry_eq m c s]
  refine (carry_apply _ _ _ r b).trans ?_
  rw [gated_blocks]
  have e1 : seqOf s = seqOf t := Fin.ext (by simp only [seqOf]; omega)
  have e2 : colOf s b = colOf t b := Fin.ext (by simp only [colOf]; omega)
  rw [e1, e2]
  exact congrArg (fun z : Fin 2048 => gate (m ((c : Thread nD τ).loc main_arg0)) (m ((c : Thread nD τ).loc main_arg1)) (seqOf t) z (colOf t b)) (Fin.ext (by simp only [posOf]; omega))

/-- What a later grid point of a sequence stores is the reference's array. -/
theorem next_eq (c : Dev nD) (t : Fin cfg0.N) (h0 : ¬ t.val % 4 = 0) (a b : Fin 512) :
    (outsAt0 m c t.val t.isLt).1 (ix2 a b) = REF (m ((c : Thread nD τ).loc main_arg0)) (m ((c : Thread nD τ).loc main_arg1)) (m ((c : Thread nD τ).loc main_arg2)) (ix2 (rowOf t a) (colOf t b)) := by
  have hc := fun r => carried m c t ⟨t.val - 1, by have := t.isLt; omega⟩ h0 rfl r b
  rw [outsAt0_B m c t h0]
  frame_out
  rw [read_unread_whole]
  have hp : (posOf t a).val = t.val % 4 * 512 + a.val := rfl
  refine body_apply m c t _ a b ?_ ?_
  · unfold back1 gate1
    by_cases e : a.val = 0
    · rw [if_pos e, if_neg (by omega)]
      refine (hc 7).trans ?_
      exact congrArg (fun z : Fin 2048 => gate (m ((c : Thread nD τ).loc main_arg0)) (m ((c : Thread nD τ).loc main_arg1)) (seqOf t) z (colOf t b)) (Fin.ext (by show t.val % 4 * 512 - 8 + 7 = (posOf t a).val - 1; omega))
    · rw [if_neg e, if_neg (by omega)]
      exact gated_prev m c t a b 1 (by omega)
  · unfold back2 gate2
    by_cases e : a.val = 0
    · rw [if_pos e, if_neg (by omega)]
      refine (hc 6).trans ?_
      exact congrArg (fun z : Fin 2048 => gate (m ((c : Thread nD τ).loc main_arg0)) (m ((c : Thread nD τ).loc main_arg1)) (seqOf t) z (colOf t b)) (Fin.ext (by show t.val % 4 * 512 - 8 + 6 = (posOf t a).val - 2; omega))
    · by_cases e' : a.val = 1
      · rw [if_neg e, if_pos e', if_neg (by omega)]
        refine (hc 7).trans ?_
        exact congrArg (fun z : Fin 2048 => gate (m ((c : Thread nD τ).loc main_arg0)) (m ((c : Thread nD τ).loc main_arg1)) (seqOf t) z (colOf t b)) (Fin.ext (by show t.val % 4 * 512 - 8 + 7 = (posOf t a).val - 2; omega))
      · rw [if_neg e, if_neg e', if_neg (by omega)]
        exact gated_prev m c t a b 2 (by omega)

/-- The result array after the run is the reference's array. -/
theorem final (c : Dev nD) : (dats m 0 c).arrAt 5 (cfgs 0).N = REF (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  idx_vars y
  have ht : t.val < 256 := t.isLt
  have hy : ((cfg0.win 5).blk t).view.emb (ix2 y0 y1) = ix2 (rowOf t y0) (colOf t y1) := by
    unfold rowOf colOf
    blk_ext [idx_val t]
  rw [hy]
  by_cases h0 : t.val % 4 = 0
  · exact start_eq m c t h0 y0 y1
  · exact next_eq m c t h0 y0 y1

/-- The kernel's result and the reference's are the same array over the extended reals. -/
theorem algebraic : Cert.algebraic_ConvIdeal_ConvRefIdeal := by
  pair_intro
  · run_from Cert.ConvIdeal.Gen.run_main m g
  · hlo_run
    exact (Cert.ConvIdeal.Value.final m c).symm

end Cert.ConvIdeal.Value

end
-- ==== Proof.LayerNorm.lean ====
/- Layer normalisation of one token's 2048 channels, as a formula over the extended reals. -/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LayerNorm

/-- The average of a token's channels. -/
def mean (z : Fin 2048 → EReal) : EReal := Ideal.div (∑ k : Fin 2048, z k) (Ideal.ofBits .f32 0x45000000#32)

/-- The average square of a token's channels about their average. -/
def variance (z : Fin 2048 → EReal) : EReal :=
  Ideal.div (∑ k : Fin 2048, (z k - mean z) * (z k - mean z)) (Ideal.ofBits .f32 0x45000000#32)

/-- Channel `j` normalised, scaled by `g` and shifted by `b`. -/
def normed (z : Fin 2048 → EReal) (j : Fin 2048) (g b : EReal) : EReal :=
  (z j - mean z) * Ideal.rsqrt (variance z + Ideal.ofBits .f32 0x3727C5AC#32) * g + b

/-- The skip connection's share of a token's channel and what the sub-layer adds to it. -/
def skip (h f : EReal) : EReal := Ideal.ofBits .f32 0x3FD744FD#32 * h + f

end Cert.LayerNorm

end
-- ==== Proof.ProjValue.lean ====
/- What the one-input projection with skip connection and layer normalisation computes, and that it is the reference's. -/
module

public import proofs.«01_k».proof.Proof.Gen.ProjIdeal.Frame
public import proofs.«01_k».proof.Proof.Gen.ProjRefIdeal.Read
public import proofs.«01_k».proof.Proof.LayerNorm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen Cert.LayerNorm

/-- The reference's normalised sum, token by channel, in the wide type. -/
def REF (X : FVec Ideal S32768x2048 .f32) (W : FVec Ideal S2048x2048 .f32) (H : FVec Ideal S32768x2048 .f32) (g b : FVec Ideal S2048 .f32) : FVec Ideal S32768x2048 .f32 := Cert.ProjRefIdeal.Read.val_main_v27 (F := Ideal) X W H g b

/-- The same array in the narrow type. -/
def REFn (X : FVec Ideal S32768x2048 .f32) (W : FVec Ideal S2048x2048 .f32) (H : FVec Ideal S32768x2048 .f32) (g b : FVec Ideal S2048 .f32) : FVec Ideal S32768x2048 .bf16 := Cert.ProjRefIdeal.Read.val_main_v28 (F := Ideal) X W H g b

/-- A token's channels before normalisation: skip connection plus projection. -/
def pre (X : FVec Ideal S32768x2048 .f32) (W : FVec Ideal S2048x2048 .f32) (H : FVec Ideal S32768x2048 .f32) (i : Fin 32768) (j : Fin 2048) : EReal := skip (H (ix2 i j)) (∑ k : Fin 2048, X (ix2 i k) * W (ix2 k j))

/-- The reference's sum before normalisation, at one entry. -/
theorem pre_apply (X : FVec Ideal S32768x2048 .f32) (W : FVec Ideal S2048x2048 .f32) (H : FVec Ideal S32768x2048 .f32) (i : Fin 32768) (j : Fin 2048) : Cert.ProjRefIdeal.Read.val_main_v3 (F := Ideal) X W H (ix2 i j) = pre X W H i j := by
  pointwise [Cert.ProjRefIdeal.Read.val_main_v3, Cert.ProjRefIdeal.Read.val_main_v2, Cert.ProjRefIdeal.Read.val_main_v1, Cert.ProjRefIdeal.Read.val_main_v0, Cert.ProjRefIdeal.Read.val_main_cst, pre, skip]

/-- The reference's averages, at one entry. -/
theorem mean_apply (X : FVec Ideal S32768x2048 .f32) (W : FVec Ideal S2048x2048 .f32) (H : FVec Ideal S32768x2048 .f32) (i : Fin 32768) : Cert.ProjRefIdeal.Read.val_main_v7 (F := Ideal) X W H (ix2 i (0 : Fin 1)) = mean (pre X W H i) := by
  pointwise [Cert.ProjRefIdeal.Read.val_main_v7, Cert.ProjRefIdeal.Read.val_main_v6, Cert.ProjRefIdeal.Read.val_main_v5, Cert.ProjRefIdeal.Read.val_main_v4, Cert.ProjRefIdeal.Read.val_main_cst_0, Cert.ProjRefIdeal.Read.val_main_cst_1, mean, pre_apply]

/-- The reference's result, at one entry. -/
theorem ref_apply (X : FVec Ideal S32768x2048 .f32) (W : FVec Ideal S2048x2048 .f32) (H : FVec Ideal S32768x2048 .f32) (g b : FVec Ideal S2048 .f32) (i : Fin 32768) (j : Fin 2048) : REF X W H g b (ix2 i j) = normed (pre X W H i) j (g (ix1 j)) (b (ix1 j)) := by
  pointwise [REF, Cert.ProjRefIdeal.Read.val_main_v27, Cert.ProjRefIdeal.Read.val_main_v26, Cert.ProjRefIdeal.Read.val_main_v25, Cert.ProjRefIdeal.Read.val_main_v24, Cert.ProjRefIdeal.Read.val_main_v23, Cert.ProjRefIdeal.Read.val_main_v22, Cert.ProjRefIdeal.Read.val_main_v21, Cert.ProjRefIdeal.Read.val_main_v20, Cert.ProjRefIdeal.Read.val_main_v19, Cert.ProjRefIdeal.Read.val_main_v18, Cert.ProjRefIdeal.Read.val_main_v17, Cert.ProjRefIdeal.Read.val_main_v16, Cert.ProjRefIdeal.Read.val_main_v15, Cert.ProjRefIdeal.Read.val_main_v14, Cert.ProjRefIdeal.Read.val_main_v13, Cert.ProjRefIdeal.Read.val_main_v12, Cert.ProjRefIdeal.Read.val_main_v11, Cert.ProjRefIdeal.Read.val_main_v10, Cert.ProjRefIdeal.Read.val_main_v9, Cert.ProjRefIdeal.Read.val_main_v8, Cert.ProjRefIdeal.Read.val_main_cst_2, Cert.ProjRefIdeal.Read.val_main_cst_3, Cert.ProjRefIdeal.Read.val_main_cst_4, normed, variance, pre_apply, mean_apply]

/-- The narrow result holds the same values. -/
theorem refn_eq (X : FVec Ideal S32768x2048 .f32) (W : FVec Ideal S2048x2048 .f32) (H : FVec Ideal S32768x2048 .f32) (g b : FVec Ideal S2048 .f32) (i : S32768x2048.Idx) : REFn X W H g b i = REF X W H g b i := rfl

/-- What the kernel's body stores, at one entry. -/
theorem pay_apply (x : FVec Ideal S256x2048 .bf16) (w : FVec Ideal S2048x2048 .bf16) (h : FVec Ideal S256x2048 .f32) (g b : FVec Ideal S1x2048 .f32) (a : Fin 256) (j : Fin 2048) :
    k0_pay1 (F := Ideal) x w h g b (ix2 a j)
      = normed (fun j => skip (h (ix2 a j)) (∑ k : Fin 2048, x (ix2 a k) * w (ix2 k j))) j (g (ix2 (0 : Fin 1) j)) (b (ix2 (0 : Fin 1) j)) := by
  pointwise [k0_pay1, normed, variance, mean, skip]

variable (m : (ℓ : Loc nD τ sig) → Buf (Elt Ideal) ℓ)

/-- The windows' block indices at a grid point. -/
theorem idx_val : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The row of the arrays where row `a` of a grid point's block lies. -/
def rowOf (t : Fin cfg0.N) (a : Fin 256) : Fin 32768 := ⟨t.val * 256 + a.val, by have ht : t.val < 128 := t.isLt; omega⟩

/-- What one grid point computes from its blocks is the reference's array at the block's rows. -/
theorem body_apply (c : Dev nD) (t : Fin cfg0.N) (a : Fin 256) (j : Fin 2048) :
    k0_pay1 (F := Ideal) (iblk m c 0 t) (iblk m c 1 t) (iblk m c 2 t) (iblk m c 3 t) (iblk m c 4 t) (ix2 a j)
      = REF (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t a) j) := by
  have ht : t.val < 128 := t.isLt
  rw [ref_apply]
  refine (pay_apply _ _ _ _ _ a j).trans ?_
  have hp : (fun j => skip (iblk m c 2 t (ix2 a j)) (∑ k : Fin 2048, (show EReal from iblk m c 0 t (ix2 a k)) * (show EReal from iblk m c 1 t (ix2 k j))))
      = pre (m ((c : Thread nD τ).loc main_arg0)) (m ((c : Thread nD τ).loc main_arg1)) (m ((c : Thread nD τ).loc main_arg2)) (rowOf t a) := by
    funext j
    unfold pre rowOf
    refine congrArg₂ skip ?_ (Finset.sum_congr rfl fun k _ => congrArg₂ (· * ·) ?_ ?_)
    · blk_point [iblk, V, idx_val t]
    · blk_point [iblk, V, idx_val t]
    · blk_point [iblk, V, idx_val t]
  refine (congrArg (fun z => normed z j _ _) hp).trans ?_
  refine congrArg₂ (normed _ j) ?_ ?_
  · blk_point [iblk, V, idx_val t]
  · blk_point [iblk, V, idx_val t]

/-- The wide result array after the run is the reference's. -/
theorem final5 (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  idx_vars y
  have ht : t.val < 128 := t.isLt
  have hy : ((cfg0.win 5).blk t).view.emb (ix2 y0 y1) = ix2 (rowOf t y0) y1 := by
    unfold rowOf
    blk_ext [idx_val t]
  rw [hy]
  exact body_apply m c t y0 y1

/-- The narrow result array after the run is the reference's. -/
theorem final6 (c : Dev nD) : (dats m 0 c).arrAt 6 (cfgs 0).N = REFn (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]; frame_out
  idx_vars y
  have ht : t.val < 128 := t.isLt
  have hy : ((cfg0.win 6).blk t).view.emb (ix2 y0 y1) = ix2 (rowOf t y0) y1 := by
    unfold rowOf
    blk_ext [idx_val t]
  rw [hy, refn_eq]
  exact body_apply m c t y0 y1

/-- The kernel's results and the reference's are the same arrays over the extended reals. -/
theorem algebraic : Cert.algebraic_ProjIdeal_ProjRefIdeal := by
  pair_intro
  · run_from Cert.ProjIdeal.Gen.run_main m g
  · hlo_run
    · exact (Cert.ProjIdeal.Value.final5 m c).symm
    · exact (Cert.ProjIdeal.Value.final6 m c).symm

end Cert.ProjIdeal.Value

end
-- ==== Proof.MixValue.lean ====
/- What the two-input projection with skip connection and layer normalisation computes, and that it is the reference's. -/
module

public import proofs.«01_k».proof.Proof.Gen.MixIdeal.Frame
public import proofs.«01_k».proof.Proof.Gen.MixRefIdeal.Read
public import proofs.«01_k».proof.Proof.LayerNorm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen Cert.LayerNorm

/-- The reference's normalised sum, token by channel, in the wide type. -/
def REF (X Y : FVec Ideal S32768x1024 .f32) (W : FVec Ideal S2048x2048 .f32) (H : FVec Ideal S32768x2048 .f32) (g b : FVec Ideal S2048 .f32) : FVec Ideal S32768x2048 .f32 := Cert.MixRefIdeal.Read.val_main_v28 (F := Ideal) X Y W H g b

/-- The same array in the narrow type. -/
def REFn (X Y : FVec Ideal S32768x1024 .f32) (W : FVec Ideal S2048x2048 .f32) (H : FVec Ideal S32768x2048 .f32) (g b : FVec Ideal S2048 .f32) : FVec Ideal S32768x2048 .bf16 := Cert.MixRefIdeal.Read.val_main_v29 (F := Ideal) X Y W H g b

/-- Row `k` of the upper half of the output weights. -/
def up (k : Fin 1024) : Fin 2048 := ⟨k.val, by omega⟩

/-- Row `k` of the lower half of the output weights. -/
def low (k : Fin 1024) : Fin 2048 := ⟨1024 + k.val, by omega⟩

/-- A token's channels before normalisation: skip connection plus both branches' projections. -/
def pre (X Y : FVec Ideal S32768x1024 .f32) (W : FVec Ideal S2048x2048 .f32) (H : FVec Ideal S32768x2048 .f32) (i : Fin 32768) (j : Fin 2048) : EReal :=
  skip (H (ix2 i j)) ((∑ k : Fin 1024, X (ix2 i k) * W (ix2 (up k) j)) + ∑ k : Fin 1024, Y (ix2 i k) * W (ix2 (low k) j))

/-- The two branches side by side, at an entry of the first. -/
theorem cat_up (X Y : FVec Ideal S32768x1024 .f32) (i : Fin 32768) (k : Fin 1024) :
    Cert.MixRefIdeal.Read.val_main_v2 (F := Ideal) X Y (ix2 i (up k)) = X (ix2 i k) := by
  pointwise [Cert.MixRefIdeal.Read.val_main_v2, up]

/-- The two branches side by side, at an entry of the second. -/
theorem cat_low (X Y : FVec Ideal S32768x1024 .f32) (i : Fin 32768) (k : Fin 1024) :
    Cert.MixRefIdeal.Read.val_main_v2 (F := Ideal) X Y (ix2 i (low k)) = Y (ix2 i k) := by
  pointwise [Cert.MixRefIdeal.Read.val_main_v2, low]

/-- A sum over the joined rows is the sum over the first branch's plus the sum over the second's. -/
theorem sum_halves (f : Fin 2048 → EReal) : ∑ k, f k = (∑ k, f (up k)) + ∑ k, f (low k) :=
  Fin.sum_univ_add (a := 1024) (b := 1024) f

/-- The reference's sum before normalisation, at one entry. -/
theorem pre_apply (X Y : FVec Ideal S32768x1024 .f32) (W : FVec Ideal S2048x2048 .f32) (H : FVec Ideal S32768x2048 .f32) (i : Fin 32768) (j : Fin 2048) : Cert.MixRefIdeal.Read.val_main_v4 (F := Ideal) X Y W H (ix2 i j) = pre X Y W H i j := by
  pointwise [Cert.MixRefIdeal.Read.val_main_v4, Cert.MixRefIdeal.Read.val_main_v3, Cert.MixRefIdeal.Read.val_main_v1, Cert.MixRefIdeal.Read.val_main_v0, Cert.MixRefIdeal.Read.val_main_cst, pre, skip]
  rw [sum_halves]
  simp only [cat_up, cat_low]

/-- The reference's averages, at one entry. -/
theorem mean_apply (X Y : FVec Ideal S32768x1024 .f32) (W : FVec Ideal S2048x2048 .f32) (H : FVec Ideal S32768x2048 .f32) (i : Fin 32768) : Cert.MixRefIdeal.Read.val_main_v8 (F := Ideal) X Y W H (ix2 i (0 : Fin 1)) = mean (pre X Y W H i) := by
  pointwise [Cert.MixRefIdeal.Read.val_main_v8, Cert.MixRefIdeal.Read.val_main_v7, Cert.MixRefIdeal.Read.val_main_v6, Cert.MixRefIdeal.Read.val_main_v5, Cert.MixRefIdeal.Read.val_main_cst_0, Cert.MixRefIdeal.Read.val_main_cst_1, mean, pre_apply]

/-- The reference's result, at one entry. -/
theorem ref_apply (X Y : FVec Ideal S32768x1024 .f32) (W : FVec Ideal S2048x2048 .f32) (H : FVec Ideal S32768x2048 .f32) (g b : FVec Ideal S2048 .f32) (i : Fin 32768) (j : Fin 2048) : REF X Y W H g b (ix2 i j) = normed (pre X Y W H i) j (g (ix1 j)) (b (ix1 j)) := by
  pointwise [REF, Cert.MixRefIdeal.Read.val_main_v28, Cert.MixRefIdeal.Read.val_main_v27, Cert.MixRefIdeal.Read.val_main_v26, Cert.MixRefIdeal.Read.val_main_v25, Cert.MixRefIdeal.Read.val_main_v24, Cert.MixRefIdeal.Read.val_main_v23, Cert.MixRefIdeal.Read.val_main_v22, Cert.MixRefIdeal.Read.val_main_v21, Cert.MixRefIdeal.Read.val_main_v20, Cert.MixRefIdeal.Read.val_main_v19, Cert.MixRefIdeal.Read.val_main_v18, Cert.MixRefIdeal.Read.val_main_v17, Cert.MixRefIdeal.Read.val_main_v16, Cert.MixRefIdeal.Read.val_main_v15, Cert.MixRefIdeal.Read.val_main_v14, Cert.MixRefIdeal.Read.val_main_v13, Cert.MixRefIdeal.Read.val_main_v12, Cert.MixRefIdeal.Read.val_main_v11, Cert.MixRefIdeal.Read.val_main_v10, Cert.MixRefIdeal.Read.val_main_v9, Cert.MixRefIdeal.Read.val_main_cst_2, Cert.MixRefIdeal.Read.val_main_cst_3, Cert.MixRefIdeal.Read.val_main_cst_4, normed, variance, pre_apply, mean_apply]

/-- The narrow result holds the same values. -/
theorem refn_eq (X Y : FVec Ideal S32768x1024 .f32) (W : FVec Ideal S2048x2048 .f32) (H : FVec Ideal S32768x2048 .f32) (g b : FVec Ideal S2048 .f32) (i : S32768x2048.Idx) : REFn X Y W H g b i = REF X Y W H g b i := rfl

/-- What the kernel's body stores, at one entry. -/
theorem pay_apply (x y : Vec Ideal S256x1024 .bf16) (w u : Vec Ideal S1024x2048 .bf16) (h : Vec Ideal S256x2048 .f32) (g b : Vec Ideal S1x2048 .f32) (a : Fin 256) (j : Fin 2048) :
    k0_pay1 (F := Ideal) (k0_pay5 x y w u h g b) (k0_pay6 x y w u h g b) (ix2 a j)
      = normed (fun j => skip (h (ix2 a j)) ((∑ k : Fin 1024, (show EReal from x (ix2 a k)) * (show EReal from w (ix2 k j))) + ∑ k : Fin 1024, (show EReal from y (ix2 a k)) * (show EReal from u (ix2 k j)))) j
          (g (ix2 (0 : Fin 1) j)) (b (ix2 (0 : Fin 1) j)) := by
  pointwise [k0_pay1, k0_pay5, k0_pay6, k0_pay3, k0_pay4, normed, variance, mean, skip]

variable (m : (ℓ : Loc nD τ sig) → Buf (Elt Ideal) ℓ)

/-- The windows' block indices at a grid point. -/
theorem idx_val : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0] ∧ win0_8.index t = ![t.val, 0] :=
  (by decide +kernel : ∀ t : Fin grid0.N, _)

/-- The row of the arrays where row `a` of a grid point's block lies. -/
def rowOf (t : Fin cfg0.N) (a : Fin 256) : Fin 32768 := ⟨t.val * 256 + a.val, by have ht : t.val < 128 := t.isLt; omega⟩

/-- What one grid point computes from its blocks is the reference's array at the block's rows. -/
theorem body_apply (c : Dev nD) (t : Fin cfg0.N) (a : Fin 256) (j : Fin 2048) :
    k0_pay1 (F := Ideal) (k0_pay5 (iblk m c 0 t) (iblk m c 1 t) (iblk m c 2 t) (iblk m c 3 t) (iblk m c 4 t) (iblk m c 5 t) (iblk m c 6 t))
        (k0_pay6 (iblk m c 0 t) (iblk m c 1 t) (iblk m c 2 t) (iblk m c 3 t) (iblk m c 4 t) (iblk m c 5 t) (iblk m c 6 t)) (ix2 a j)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t a) j) := by
  have ht : t.val < 128 := t.isLt
  rw [ref_apply]
  refine (pay_apply _ _ _ _ _ _ _ a j).trans ?_
  have hp : (fun j => skip (iblk m c 4 t (ix2 a j)) ((∑ k : Fin 1024, (show EReal from iblk m c 0 t (ix2 a k)) * (show EReal from iblk m c 2 t (ix2 k j)))
        + ∑ k : Fin 1024, (show EReal from iblk m c 1 t (ix2 a k)) * (show EReal from iblk m c 3 t (ix2 k j))))
      = pre (m ((c : Thread nD τ).loc main_arg0)) (m ((c : Thread nD τ).loc main_arg1)) (m ((c : Thread nD τ).loc main_arg2)) (m ((c : Thread nD τ).loc main_arg3)) (rowOf t a) := by
    funext j
    unfold pre rowOf up low
    refine congrArg₂ skip ?_ (congrArg₂ (· + ·) (Finset.sum_congr rfl fun k _ => congrArg₂ (· * ·) ?_ ?_) (Finset.sum_congr rfl fun k _ => congrArg₂ (· * ·) ?_ ?_))
    · blk_point [iblk, V, idx_val t]
    · blk_point [iblk, V, idx_val t]
    · blk_point [iblk, V, idx_val t]
    · blk_point [iblk, V, idx_val t]
    · blk_point [iblk, V, idx_val t]
  refine (congrArg (fun z => normed z j _ _) hp).trans ?_
  refine congrArg₂ (normed _ j) ?_ ?_
  · blk_point [iblk, V, idx_val t]
  · blk_point [iblk, V, idx_val t]

/-- The wide result array after the run is the reference's. -/
theorem final7 (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]; frame_out
  idx_vars y
  have ht : t.val < 128 := t.isLt
  have hy : ((cfg0.win 7).blk t).view.emb (ix2 y0 y1) = ix2 (rowOf t y0) y1 := by
    unfold rowOf
    blk_ext [idx_val t]
  rw [hy]
  exact body_apply m c t y0 y1

/-- The narrow result array after the run is the reference's. -/
theorem final8 (c : Dev nD) : (dats m 0 c).arrAt 8 (cfgs 0).N = REFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8]; frame_out
  idx_vars y
  have ht : t.val < 128 := t.isLt
  have hy : ((cfg0.win 8).blk t).view.emb (ix2 y0 y1) = ix2 (rowOf t y0) y1 := by
    unfold rowOf
    blk_ext [idx_val t]
  rw [hy, refn_eq]
  exact body_apply m c t y0 y1

/-- The kernel's results and the reference's are the same arrays over the extended reals. -/
theorem algebraic : Cert.algebraic_MixIdeal_MixRefIdeal := by
  pair_intro
  · run_from Cert.MixIdeal.Gen.run_main m g
  · hlo_run
    · exact (Cert.MixIdeal.Value.final7 m c).symm
    · exact (Cert.MixIdeal.Value.final8 m c).symm

end Cert.MixIdeal.Value

end
-- ==== Proof.InpValue.lean ====
/- What the input-projection kernel computes, and that it is the reference's product. -/
module

public import proofs.«01_k».proof.Proof.Gen.InpIdeal.Frame
public import proofs.«01_k».proof.Proof.Gen.InpRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.InpIdeal.Value

open Cert.InpIdeal Cert.InpIdeal.Gen

variable (m : (ℓ : Loc nD τ sig) → Buf (Elt Ideal) ℓ)

/-- The reference's product of the activations with the input weights, as a matrix of tokens by columns. -/
def REF (X : (⟨S16x2048x2048, .f32⟩ : BufTy).Contents (Elt Ideal)) (W : (⟨S2048x6144, .f32⟩ : BufTy).Contents (Elt Ideal)) :
    (⟨S32768x6144, .f32⟩ : BufTy).Contents (Elt Ideal) := Cert.InpRefIdeal.Read.val_main_v1 (F := Ideal) X W

/-- The windows' block indices at a grid point: the point is a column tile and then a row tile. -/
theorem idx_val : ∀ t : Fin cfg0.N, win0_0.index t = ![t.val % 32, 0]
    ∧ win0_1.index t = ![0, t.val / 32]
    ∧ win0_2.index t = ![t.val % 32, t.val / 32] :=
  (by decide +kernel : ∀ t : Fin grid0.N, _)

/-- One entry of what the kernel body stores: the row of the first block times the column of the second. -/
theorem pay_apply (x : FVec Ideal S1024x2048 .bf16) (w : FVec Ideal S2048x1024 .bf16) (a : Fin 1024) (b : Fin 1024) :
    k0_pay1 (F := Ideal) x w (ix2 a b) = ∑ k : Fin 2048, x (ix2 a k) * w (ix2 k b) := by
  pointwise [k0_pay1]

/-- One entry of the reference's product: token `i`'s row times column `j`. -/
theorem ref_apply (X : FVec Ideal S16x2048x2048 .f32) (W : FVec Ideal S2048x6144 .f32) (i : Fin 32768) (j : Fin 6144) :
    REF X W (ix2 i j) = ∑ k : Fin 2048, X (ix3 (⟨i.val / 2048, by omega⟩ : Fin 16) (⟨i.val % 2048, by omega⟩ : Fin 2048) k) * W (ix2 k j) := by
  unfold REF
  rw [Cert.InpRefIdeal.Read.val_main_v1_apply, Cert.InpRefIdeal.Read.val_main_v0_apply]
  refine Finset.sum_congr rfl fun k _ => congrArg₂ (· * ·) (congrArg X (funext fun a => ?_)) (congrArg W (funext fun a => ?_))
  · match a with
    | ⟨0, _⟩ => exact Fin.ext (show (i.val * 6144 + j.val) / 12582912 = i.val / 2048 by omega)
    | ⟨1, _⟩ => exact Fin.ext (show (i.val * 6144 + j.val) / 6144 % 2048 = i.val % 2048 by omega)
    | ⟨2, _⟩ => rfl
  · match a with
    | ⟨0, _⟩ => rfl
    | ⟨1, _⟩ => exact Fin.ext (show (i.val * 6144 + j.val) % 6144 = j.val by omega)

/-- What one grid point stores is the reference's product at the place of the result where the block lies. -/
theorem point (c : Dev nD) (t : Fin cfg0.N) (y) :
    k0_pay1 (iblk m c 0 t) (iblk m c 1 t) y
      = REF (m ((c : Thread nD τ).loc main_arg0)) (m ((c : Thread nD τ).loc main_arg1))
          (((cfg0.win 2).blk t).view.emb y) := by
  have ht : t.val < 192 := t.isLt
  idx_vars y
  have h : ((cfg0.win 2).blk t).view.emb (ix2 y0 y1) = ix2 (⟨t.val % 32 * 1024 + y0.val, by omega⟩ : Fin 32768)
      (⟨t.val / 32 * 1024 + y1.val, by omega⟩ : Fin 6144) := by
    blk_ext [idx_val t]
  rw [h, ref_apply, pay_apply]
  refine Finset.sum_congr rfl fun k _ => congrArg₂ (· * ·) ?_ ?_
  · blk_point [iblk, V, idx_val t]
  · blk_point [iblk, V, idx_val t]

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The kernel's result and the reference's are the same array over the extended reals. -/
theorem algebraic : Cert.algebraic_InpIdeal_InpRefIdeal := by
  pair_intro
  · run_from Cert.InpIdeal.Gen.run_main m g
  · hlo_run
    exact (Cert.InpIdeal.Value.final m c).symm

end Cert.InpIdeal.Value

end
-- ==== Proof.KvValue.lean ====
/- What the key-value projection kernel of the memory computes, and that it is the reference's product. -/
module

public import proofs.«01_k».proof.Proof.Gen.KvIdeal.Frame
public import proofs.«01_k».proof.Proof.Gen.KvRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KvIdeal.Value

open Cert.KvIdeal Cert.KvIdeal.Gen

variable (m : (ℓ : Loc nD τ sig) → Buf (Elt Ideal) ℓ)

/-- The reference's product of the memory with the key and value weights, as a matrix of memory positions by columns. -/
def REF (X : (⟨S16x256x2048, .f32⟩ : BufTy).Contents (Elt Ideal)) (W : (⟨S2048x4096, .f32⟩ : BufTy).Contents (Elt Ideal)) :
    (⟨S4096x4096, .bf16⟩ : BufTy).Contents (Elt Ideal) := Cert.KvRefIdeal.Read.val_main_v2 (F := Ideal) X W

/-- The windows' block indices at a grid point: the point is a column tile and then a row tile. -/
theorem idx_val : ∀ t : Fin cfg0.N, win0_0.index t = ![t.val % 4, 0]
    ∧ win0_1.index t = ![0, t.val / 4]
    ∧ win0_2.index t = ![t.val % 4, t.val / 4] :=
  (by decide +kernel : ∀ t : Fin grid0.N, _)

/-- One entry of what the kernel body stores: the row of the first block times the column of the second. -/
theorem pay_apply (x : FVec Ideal S1024x2048 .bf16) (w : FVec Ideal S2048x1024 .bf16) (a : Fin 1024) (b : Fin 1024) :
    k0_pay1 (F := Ideal) x w (ix2 a b) = ∑ k : Fin 2048, x (ix2 a k) * w (ix2 k b) := by
  pointwise [k0_pay1]

/-- One entry of the reference's product: memory position `i`'s row times column `j`. -/
theorem ref_apply (X : FVec Ideal S16x256x2048 .f32) (W : FVec Ideal S2048x4096 .f32) (i : Fin 4096) (j : Fin 4096) :
    REF X W (ix2 i j) = ∑ k : Fin 2048, X (ix3 (⟨i.val / 256, by omega⟩ : Fin 16) (⟨i.val % 256, by omega⟩ : Fin 256) k) * W (ix2 k j) := by
  unfold REF
  rw [show Cert.KvRefIdeal.Read.val_main_v2 (F := Ideal) X W (ix2 i j) = Cert.KvRefIdeal.Read.val_main_v1 (F := Ideal) X W (ix2 i j) from rfl,
    Cert.KvRefIdeal.Read.val_main_v1_apply, Cert.KvRefIdeal.Read.val_main_v0_apply]
  refine Finset.sum_congr rfl fun k _ => congrArg₂ (· * ·) (congrArg X (funext fun a => ?_)) (congrArg W (funext fun a => ?_))
  · match a with
    | ⟨0, _⟩ => exact Fin.ext (show (i.val * 4096 + j.val) / 1048576 = i.val / 256 by omega)
    | ⟨1, _⟩ => exact Fin.ext (show (i.val * 4096 + j.val) / 4096 % 256 = i.val % 256 by omega)
    | ⟨2, _⟩ => rfl
  · match a with
    | ⟨0, _⟩ => rfl
    | ⟨1, _⟩ => exact Fin.ext (show (i.val * 4096 + j.val) % 4096 = j.val by omega)

/-- What one grid point stores is the reference's product at the place of the result where the block lies. -/
theorem point (c : Dev nD) (t : Fin cfg0.N) (y) :
    k0_pay1 (iblk m c 0 t) (iblk m c 1 t) y
      = REF (m ((c : Thread nD τ).loc main_arg0)) (m ((c : Thread nD τ).loc main_arg1))
          (((cfg0.win 2).blk t).view.emb y) := by
  have ht : t.val < 16 := t.isLt
  idx_vars y
  have h : ((cfg0.win 2).blk t).view.emb (ix2 y0 y1) = ix2 (⟨t.val % 4 * 1024 + y0.val, by omega⟩ : Fin 4096)
      (⟨t.val / 4 * 1024 + y1.val, by omega⟩ : Fin 4096) := by
    blk_ext [idx_val t]
  rw [h, ref_apply, pay_apply]
  refine Finset.sum_congr rfl fun k _ => congrArg₂ (· * ·) ?_ ?_
  · blk_point [iblk, V, idx_val t]
  · blk_point [iblk, V, idx_val t]

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- The kernel's result and the reference's are the same array over the extended reals. -/
theorem algebraic : Cert.algebraic_KvIdeal_KvRefIdeal := by
  pair_intro
  · run_from Cert.KvIdeal.Gen.run_main m g
  · hlo_run
    exact (Cert.KvIdeal.Value.final m c).symm

end Cert.KvIdeal.Value

end
-- ==== Proof.Gating.lean ====
/- The spatial gating of one entry, as a formula over the extended reals. -/
module

public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Gating

/-- The gating's activation: the smooth gate by a hyperbolic tangent. -/
def act (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The activation with its cube bracketed the other way. -/
theorem act_cube (x : EReal) : act x
    = x * (Ideal.ofBits .f32 0x3F000000#32 * (Ideal.ofBits .f32 0x3F800000#32
      + Ideal.tanh (Ideal.ofBits .f32 0x3F4C422A#32 * (x + Ideal.ofBits .f32 0x3D372713#32 * (x * x * x))))) := by
  unfold act
  rw [mul_assoc x x x]

/-- The average of a position's 1024 channels. -/
def mean (z : Fin 1024 → EReal) : EReal := Ideal.div (∑ k : Fin 1024, z k) (Ideal.ofBits .f32 0x44800000#32)

/-- The average square of a position's channels about their average. -/
def variance (z : Fin 1024 → EReal) : EReal :=
  Ideal.div (∑ k : Fin 1024, (z k - mean z) * (z k - mean z)) (Ideal.ofBits .f32 0x44800000#32)

/-- Channel `j` normalised, scaled by `g` and shifted by `b`. -/
def normed (z : Fin 1024 → EReal) (j : Fin 1024) (g b : EReal) : EReal :=
  (z j - mean z) * Ideal.rsqrt (variance z + Ideal.ofBits .f32 0x3727C5AC#32) * g + b

/-- A mixing weight from position `s` to position `t`: nothing comes from a later position. -/
def causal (t s : Fin 128) (w : EReal) : EReal := if s.val ≤ t.val then w else 0

/-- The gate `u` times the mixed channel: the chunk's weighted sum and the position's shift. -/
def gated (u : EReal) (t : Fin 128) (w v : Fin 128 → EReal) (b : EReal) : EReal :=
  u * ((∑ s : Fin 128, causal t s (w s) * v s) + b)

/-- A select on the causal comparison of two positions' words is the causal weight. -/
theorem select_causal (t s : Fin 128) (w : EReal) :
    Scalar.select (IntOp.cmpi .sge (BitVec.ofNat 32 t.val) (BitVec.ofNat 32 s.val)) w 0 = causal t s w := by
  have ht := t.isLt
  have hs := s.isLt
  rw [WordCmp.cmpi_sge_ofNat (by omega) (by omega)]
  unfold causal
  by_cases h : s.val ≤ t.val
  · rw [if_pos h, decide_eq_true h]; rfl
  · rw [if_neg h, decide_eq_false h]; rfl

end Cert.Gating

end
-- ==== Proof.SguPay.lean ====
/- What the spatial gating kernel computes at one grid point, in terms of the blocks it loads. -/
module

public import proofs.«01_k».proof.Proof.Gen.SguIdeal.Frame
public import proofs.«01_k».proof.Proof.Gating
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SguIdeal.Value

open Cert.SguIdeal Cert.SguIdeal.Gen Cert.Gating

/-- Row `t` of the block's chunk `n`. -/
def row (n : Fin 2) (t : Fin 128) : Fin 256 := ⟨n.val * 128 + t.val, by omega⟩

/-- Channel `c` of group `q`. -/
def chan (q : Fin 8) (c : Fin 128) : Fin 1024 := ⟨q.val * 128 + c.val, by omega⟩

/-- The gate over the block. -/
theorem gate_apply (x0 x1 : FVec Ideal S256x1024 .f32) (x2 x3 : FVec Ideal S1x1024 .f32) (x4 : FVec Ideal S8x128x128 .f32) (x5 : FVec Ideal S128x1024 .f32)
    (r : Fin 256) (j : Fin 1024) : k0_pay34 (F := Ideal) x0 x1 x2 x3 x4 x5 (ix2 r j) = act (x0 (ix2 r j)) := by
  pointwise [k0_pay34, k0_pay3, act]

/-- The mixed half about its averages, over the block. -/
theorem centred_apply (x : FVec Ideal S256x1024 .f32) (r : Fin 256) (j : Fin 1024) :
    k0_pay6 (F := Ideal) x (ix2 r j) = act (x (ix2 r j)) - mean (fun k => act (x (ix2 r k))) := by
  pointwise [k0_pay6, act, mean]

/-- The sums of the squares, over the block. -/
theorem squares_apply (x : FVec Ideal S256x1024 .f32) (r : Fin 256) :
    k0_pay7 (F := Ideal) x (ix1 r) = ∑ j : Fin 1024, (act (x (ix2 r j)) - mean (fun k => act (x (ix2 r k)))) * (act (x (ix2 r j)) - mean (fun k => act (x (ix2 r k)))) := by
  pointwise [k0_pay7, centred_apply]

/-- The normalised half, over the block. -/
theorem normed_apply (x0 x1 : FVec Ideal S256x1024 .f32) (x2 x3 : FVec Ideal S1x1024 .f32) (x4 : FVec Ideal S8x128x128 .f32) (x5 : FVec Ideal S128x1024 .f32)
    (r : Fin 256) (j : Fin 1024) : k0_pay39 (F := Ideal) x0 x1 x2 x3 x4 x5 (ix2 r j)
      = normed (fun k => act (x1 (ix2 r k))) j (x2 (ix2 (0 : Fin 1) j)) (x3 (ix2 (0 : Fin 1) j)) := by
  pointwise [k0_pay39, k0_pay8, k0_pay35, k0_pay36, k0_pay37, k0_pay38, k0_pay4, k0_pay5, normed, variance, centred_apply, squares_apply]

/-- The causal comparison. -/
theorem mask_apply (t s : Fin 128) : k0_pay9 (ix2 t s) = IntOp.cmpi .sge (BitVec.ofNat 32 t.val) (BitVec.ofNat 32 s.val) := by
  pointwise [k0_pay9]

/-- What one tile of chunk `n` and group `q` holds, in terms of the block's gate, normalised half and comparison. -/
def tile (n : Fin 2) (q : Fin 8) (u : FVec Ideal S256x1024 .f32) (v : FVec Ideal S256x1024 .bf16) (p : IVec S128x128 1) (w : FVec Ideal S1x128x128 .f32) (b : FVec Ideal S128x128 .f32) (t c : Fin 128) : EReal :=
  u (ix2 (row n t) (chan q c)) * ((∑ s : Fin 128, Scalar.select (p (ix2 t s)) (w (ix3 (0 : Fin 1) t s)) (0 : EReal) * v (ix2 (row n s) (chan q c))) + b (ix2 t c))

theorem tile00 (u : FVec Ideal S256x1024 .f32) (g h : FVec Ideal S1x1024 .f32) (d : FVec Ideal S256x1024 .f32) (e : FVec Ideal S256 .f32)
    (w : FVec Ideal S1x128x128 .f32) (b : FVec Ideal S128x128 .f32) (t c : Fin 128) :
    k0_pay11 (F := Ideal) u g h d e w b (ix2 t c) = tile 0 0 u (k0_pay8 g h d e) k0_pay9 w b t c := by
  pointwise [k0_pay11, k0_pay10, tile, row, chan]

theorem tile10 (u : FVec Ideal S256x1024 .f32) (g h : FVec Ideal S1x1024 .f32) (d : FVec Ideal S256x1024 .f32) (e : FVec Ideal S256 .f32)
    (w : FVec Ideal S1x128x128 .f32) (b : FVec Ideal S128x128 .f32) (t c : Fin 128) :
    k0_pay12 (F := Ideal) u g h d e w b (ix2 t c) = tile 1 0 u (k0_pay8 g h d e) k0_pay9 w b t c := by
  pointwise [k0_pay12, k0_pay10, tile, row, chan]

theorem tile01 (u : FVec Ideal S256x1024 .f32) (v : FVec Ideal S256x1024 .bf16) (p : IVec S128x128 1) (w : FVec Ideal S1x128x128 .f32) (b : FVec Ideal S128x128 .f32) (t c : Fin 128) :
    k0_pay14 (F := Ideal) u v p w b (ix2 t c) = tile 0 1 u v p w b t c := by
  pointwise [k0_pay14, k0_pay13, tile, row, chan]

theorem tile11 (u : FVec Ideal S256x1024 .f32) (v : FVec Ideal S256x1024 .bf16) (p : IVec S128x128 1) (w : FVec Ideal S1x128x128 .f32) (b : FVec Ideal S128x128 .f32) (t c : Fin 128) :
    k0_pay15 (F := Ideal) u v p w b (ix2 t c) = tile 1 1 u v p w b t c := by
  pointwise [k0_pay15, k0_pay13, tile, row, chan]

theorem tile02 (u : FVec Ideal S256x1024 .f32) (v : FVec Ideal S256x1024 .bf16) (p : IVec S128x128 1) (w : FVec Ideal S1x128x128 .f32) (b : FVec Ideal S128x128 .f32) (t c : Fin 128) :
    k0_pay17 (F := Ideal) u v p w b (ix2 t c) = tile 0 2 u v p w b t c := by
  pointwise [k0_pay17, k0_pay16, tile, row, chan]

theorem tile12 (u : FVec Ideal S256x1024 .f32) (v : FVec Ideal S256x1024 .bf16) (p : IVec S128x128 1) (w : FVec Ideal S1x128x128 .f32) (b : FVec Ideal S128x128 .f32) (t c : Fin 128) :
    k0_pay18 (F := Ideal) u v (k0_pay16 p w) b (ix2 t c) = tile 1 2 u v p w b t c := by
  pointwise [k0_pay18, k0_pay16, tile, row, chan]

theorem tile03 (u : FVec Ideal S256x1024 .f32) (v : FVec Ideal S256x1024 .bf16) (p : IVec S128x128 1) (w : FVec Ideal S1x128x128 .f32) (b : FVec Ideal S128x128 .f32) (t c : Fin 128) :
    k0_pay20 (F := Ideal) u v p w b (ix2 t c) = tile 0 3 u v p w b t c := by
  pointwise [k0_pay20, k0_pay19, tile, row, chan]

theorem tile13 (u : FVec Ideal S256x1024 .f32) (v : FVec Ideal S256x1024 .bf16) (p : IVec S128x128 1) (w : FVec Ideal S1x128x128 .f32) (b : FVec Ideal S128x128 .f32) (t c : Fin 128) :
    k0_pay21 (F := Ideal) u v p w b (ix2 t c) = tile 1 3 u v p w b t c := by
  pointwise [k0_pay21, k0_pay19, tile, row, chan]

theorem tile04 (u : FVec Ideal S256x1024 .f32) (v : FVec Ideal S256x1024 .bf16) (p : IVec S128x128 1) (w : FVec Ideal S1x128x128 .f32) (b : FVec Ideal S128x128 .f32) (t c : Fin 128) :
    k0_pay24 (F := Ideal) u v p (k0_pay22 w) (Scalar.ofBits .f32 0x00000000#32) b (ix2 t c) = tile 0 4 u v p w b t c := by
  pointwise [k0_pay24, k0_pay23, k0_pay22, tile, row, chan]

theorem tile14 (u : FVec Ideal S256x1024 .f32) (v : FVec Ideal S256x1024 .bf16) (p : IVec S128x128 1) (w : FVec Ideal S1x128x128 .f32) (b : FVec Ideal S128x128 .f32) (t c : Fin 128) :
    k0_pay25 (F := Ideal) u v p (k0_pay22 w) (Scalar.ofBits .f32 0x00000000#32) b (ix2 t c) = tile 1 4 u v p w b t c := by
  pointwise [k0_pay25, k0_pay23, k0_pay22, tile, row, chan]

theorem tile05 (u : FVec Ideal S256x1024 .f32) (v : FVec Ideal S256x1024 .bf16) (p : IVec S128x128 1) (w : FVec Ideal S1x128x128 .f32) (b : FVec Ideal S128x128 .f32) (t c : Fin 128) :
    k0_pay27 (F := Ideal) u v p w b (ix2 t c) = tile 0 5 u v p w b t c := by
  pointwise [k0_pay27, k0_pay26, tile, row, chan]

theorem tile15 (u : FVec Ideal S256x1024 .f32) (v : FVec Ideal S256x1024 .bf16) (p : IVec S128x128 1) (w : FVec Ideal S1x128x128 .f32) (b : FVec Ideal S128x128 .f32) (t c : Fin 128) :
    k0_pay29 (F := Ideal) u (k0_pay28 v p w) b (ix2 t c) = tile 1 5 u v p w b t c := by
  pointwise [k0_pay29, k0_pay28, k0_pay26, tile, row, chan]

theorem tile06 (u : FVec Ideal S256x1024 .f32) (v : FVec Ideal S256x1024 .bf16) (p : IVec S128x128 1) (w : FVec Ideal S1x128x128 .f32) (b : FVec Ideal S128x128 .f32) (t c : Fin 128) :
    k0_pay31 (F := Ideal) u v p w b (ix2 t c) = tile 0 6 u v p w b t c := by
  pointwise [k0_pay31, k0_pay30, tile, row, chan]

theorem tile16 (u : FVec Ideal S256x1024 .f32) (v : FVec Ideal S256x1024 .bf16) (p : IVec S128x128 1) (w : FVec Ideal S1x128x128 .f32) (b : FVec Ideal S128x128 .f32) (t c : Fin 128) :
    k0_pay32 (F := Ideal) u v p w b (ix2 t c) = tile 1 6 u v p w b t c := by
  pointwise [k0_pay32, k0_pay30, tile, row, chan]

theorem tile07 (u : FVec Ideal S256x1024 .f32) (v : FVec Ideal S256x1024 .bf16) (p : IVec S128x128 1) (w : FVec Ideal S1x128x128 .f32) (b : FVec Ideal S128x128 .f32) (t c : Fin 128) :
    k0_pay1 (F := Ideal) u v (k0_pay33 p w) b (ix2 t c) = tile 0 7 u v p w b t c := by
  pointwise [k0_pay1, k0_pay33, tile, row, chan]

theorem tile17 (u : FVec Ideal S256x1024 .f32) (v : FVec Ideal S256x1024 .bf16) (p : IVec S128x128 1) (w : FVec Ideal S1x128x128 .f32) (b : FVec Ideal S128x128 .f32) (t c : Fin 128) :
    k0_pay2 (F := Ideal) u v (k0_pay33 p w) b (ix2 t c) = tile 1 7 u v p w b t c := by
  pointwise [k0_pay2, k0_pay33, tile, row, chan]

end Cert.SguIdeal.Value

end
-- ==== Proof.SguRef.lean ====
/- What the spatial gating's reference computes, read at one entry. -/
module

public import proofs.«01_k».proof.Proof.Gen.SguRefIdeal.Read
public import proofs.«01_k».proof.Proof.Gating
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SguRefIdeal.Value

open Cert.SguRefIdeal Cert.Gating

/-- The token in which position `b` of sequence `a` lies. -/
def tok (a : Fin 16) (b : Fin 2048) : Fin 32768 := ⟨a.val * 2048 + b.val, by omega⟩

/-- The gate's column of channel `c`. -/
def ucol (c : Fin 1024) : Fin 6144 := ⟨c.val, by omega⟩

/-- The mixed half's column of channel `c`. -/
def vcol (c : Fin 1024) : Fin 6144 := ⟨1024 + c.val, by omega⟩

/-- The gate, at one entry. -/
theorem u_apply (X : FVec Ideal S32768x6144 .f32) (a : Fin 16) (b : Fin 2048) (c : Fin 1024) :
    Cert.SguRefIdeal.Read.val_main_v14 (F := Ideal) X (ix3 a b c) = act (X (ix2 (tok a b) (ucol c))) := by
  rw [act_cube]
  pointwise [Cert.SguRefIdeal.Read.val_main_v14, Cert.SguRefIdeal.Read.val_main_v13, Cert.SguRefIdeal.Read.val_main_v12, Cert.SguRefIdeal.Read.val_main_v11, Cert.SguRefIdeal.Read.val_main_v10, Cert.SguRefIdeal.Read.val_main_v9, Cert.SguRefIdeal.Read.val_main_v8, Cert.SguRefIdeal.Read.val_main_v7, Cert.SguRefIdeal.Read.val_main_v6, Cert.SguRefIdeal.Read.val_main_v5, Cert.SguRefIdeal.Read.val_main_v4, Cert.SguRefIdeal.Read.val_main_v3, Cert.SguRefIdeal.Read.val_main_v2, Cert.SguRefIdeal.Read.val_main_v1, Cert.SguRefIdeal.Read.val_main_v0, Cert.SguRefIdeal.Read.val_main_cst, Cert.SguRefIdeal.Read.val_main_cst_0, Cert.SguRefIdeal.Read.val_main_cst_1, Cert.SguRefIdeal.Read.val_main_cst_2, tok, ucol]

/-- The mixed half after its activation, at one entry. -/
theorem v_apply (X : FVec Ideal S32768x6144 .f32) (a : Fin 16) (b : Fin 2048) (c : Fin 1024) :
    Cert.SguRefIdeal.Read.val_main_v28 (F := Ideal) X (ix3 a b c) = act (X (ix2 (tok a b) (vcol c))) := by
  rw [act_cube]
  pointwise [Cert.SguRefIdeal.Read.val_main_v0, Cert.SguRefIdeal.Read.val_main_v28, Cert.SguRefIdeal.Read.val_main_v27, Cert.SguRefIdeal.Read.val_main_v26, Cert.SguRefIdeal.Read.val_main_v25, Cert.SguRefIdeal.Read.val_main_v24, Cert.SguRefIdeal.Read.val_main_v23, Cert.SguRefIdeal.Read.val_main_v22, Cert.SguRefIdeal.Read.val_main_v21, Cert.SguRefIdeal.Read.val_main_v20, Cert.SguRefIdeal.Read.val_main_v19, Cert.SguRefIdeal.Read.val_main_v18, Cert.SguRefIdeal.Read.val_main_v17, Cert.SguRefIdeal.Read.val_main_v16, Cert.SguRefIdeal.Read.val_main_v15, Cert.SguRefIdeal.Read.val_main_cst_3, Cert.SguRefIdeal.Read.val_main_cst_4, Cert.SguRefIdeal.Read.val_main_cst_5, Cert.SguRefIdeal.Read.val_main_cst_6, tok, vcol]

/-- The reference's averages, at one entry. -/
theorem mean_apply (X : FVec Ideal S32768x6144 .f32) (a : Fin 16) (b : Fin 2048) :
    Cert.SguRefIdeal.Read.val_main_v32 (F := Ideal) X (ix3 a b (0 : Fin 1)) = mean (fun c => act (X (ix2 (tok a b) (vcol c)))) := by
  pointwise [Cert.SguRefIdeal.Read.val_main_v32, Cert.SguRefIdeal.Read.val_main_v31, Cert.SguRefIdeal.Read.val_main_v30, Cert.SguRefIdeal.Read.val_main_v29, Cert.SguRefIdeal.Read.val_main_cst_7, Cert.SguRefIdeal.Read.val_main_cst_8, mean, v_apply]

/-- The normalised half, at one entry. -/
theorem n_apply (X : FVec Ideal S32768x6144 .f32) (g b : FVec Ideal S1024 .f32) (a : Fin 16) (p : Fin 2048) (c : Fin 1024) :
    Cert.SguRefIdeal.Read.val_main_v52 (F := Ideal) X g b (ix3 a p c) = normed (fun c => act (X (ix2 (tok a p) (vcol c)))) c (g (ix1 c)) (b (ix1 c)) := by
  pointwise [Cert.SguRefIdeal.Read.val_main_v52, Cert.SguRefIdeal.Read.val_main_v51, Cert.SguRefIdeal.Read.val_main_v50, Cert.SguRefIdeal.Read.val_main_v49, Cert.SguRefIdeal.Read.val_main_v48, Cert.SguRefIdeal.Read.val_main_v47, Cert.SguRefIdeal.Read.val_main_v46, Cert.SguRefIdeal.Read.val_main_v45, Cert.SguRefIdeal.Read.val_main_v44, Cert.SguRefIdeal.Read.val_main_v43, Cert.SguRefIdeal.Read.val_main_v42, Cert.SguRefIdeal.Read.val_main_v41, Cert.SguRefIdeal.Read.val_main_v40, Cert.SguRefIdeal.Read.val_main_v39, Cert.SguRefIdeal.Read.val_main_v38, Cert.SguRefIdeal.Read.val_main_v37, Cert.SguRefIdeal.Read.val_main_v36, Cert.SguRefIdeal.Read.val_main_v35, Cert.SguRefIdeal.Read.val_main_v34, Cert.SguRefIdeal.Read.val_main_v33, Cert.SguRefIdeal.Read.val_main_cst_9, Cert.SguRefIdeal.Read.val_main_cst_10, Cert.SguRefIdeal.Read.val_main_cst_11, normed, variance, v_apply, mean_apply]

/-- The masked weights, at one entry. -/
theorem w_apply (W : FVec Ideal S8x128x128 .f32) (q : Fin 8) (t s : Fin 128) :
    Cert.SguRefIdeal.Read.val_main_v56 (F := Ideal) W (ix3 q t s) = causal t s (W (ix3 q t s)) := by
  rw [← select_causal]
  pointwise [Cert.SguRefIdeal.Read.val_main_v56, Cert.SguRefIdeal.Read.val_main_v55, Cert.SguRefIdeal.Read.val_main_v54, Cert.SguRefIdeal.Read.val_main_call0_v0, Cert.SguRefIdeal.Read.val_main_call0_v1, Cert.SguRefIdeal.Read.val_main_call0_v2, Cert.SguRefIdeal.Read.val_main_call0_v3, Cert.SguRefIdeal.Read.val_main_call0_v4, Cert.SguRefIdeal.Read.val_main_call0_v5, Cert.SguRefIdeal.Read.val_main_call0_c, Cert.SguRefIdeal.Read.val_main_call0_c_0, Cert.SguRefIdeal.Read.val_main_c, Cert.SguRefIdeal.Read.val_main_c_12, Cert.SguRefIdeal.Read.val_main_call1_v0, Cert.SguRefIdeal.Read.val_main_call1_v1, Cert.SguRefIdeal.Read.val_main_call1_v2]
  have hz : (FloatOps.sitofp FTy.f32 0#32 : Ideal .f32) = (0 : EReal) := by
    show (((0#32 : BitVec 32).toInt : ℝ) : EReal) = 0
    simp
  have ha : IntOp.addi (BitVec.ofNat 32 t.val) 0#32 = BitVec.ofNat 32 t.val := by
    show BitVec.ofNat 32 t.val + 0#32 = _
    exact BitVec.add_zero _
  have hs : ∀ m : BitVec 1, Scalar.select m (1#1) (0#1) = m := by decide
  rw [hz, ha, hs]

/-- Position `t` of chunk `n`. -/
def pos (n : Fin 16) (t : Fin 128) : Fin 2048 := ⟨n.val * 128 + t.val, by omega⟩

/-- Channel `c` of group `q`. -/
def chan (q : Fin 8) (c : Fin 128) : Fin 1024 := ⟨q.val * 128 + c.val, by omega⟩

/-- The reference's mixed channels, at one entry. -/
theorem mixed_apply (X : FVec Ideal S32768x6144 .f32) (g b : FVec Ideal S1024 .f32) (W : FVec Ideal S8x128x128 .f32) (B : FVec Ideal S8x128 .f32) (a n : Fin 16) (t : Fin 128) (q : Fin 8) (c : Fin 128) :
    Cert.SguRefIdeal.Read.val_main_v63 (F := Ideal) X g b W B (ix5 a n t q c)
      = (∑ s : Fin 128, causal t s (W (ix3 q t s)) * normed (fun c => act (X (ix2 (tok a (pos n s)) (vcol c)))) (chan q c)
          (g (ix1 (chan q c))) (b (ix1 (chan q c)))) + B (ix2 q t) := by
  pointwise [Cert.SguRefIdeal.Read.val_main_v63, Cert.SguRefIdeal.Read.val_main_v62, Cert.SguRefIdeal.Read.val_main_v61, Cert.SguRefIdeal.Read.val_main_v60, Cert.SguRefIdeal.Read.val_main_v59, Cert.SguRefIdeal.Read.val_main_v58, Cert.SguRefIdeal.Read.val_main_v57, Cert.SguRefIdeal.Read.val_main_v53, w_apply]
  refine congrArg₂ (· + ·) (Finset.sum_congr rfl fun s _ => ?_) rfl
  rw [mul_comm]
  exact congrArg (_ * ·) (n_apply X g b a (pos n s) (chan q c))

/-- The reference's result, at one entry. -/
theorem ref_apply (X : FVec Ideal S32768x6144 .f32) (g b : FVec Ideal S1024 .f32) (W : FVec Ideal S8x128x128 .f32) (B : FVec Ideal S8x128 .f32) (a n : Fin 16) (t : Fin 128) (q : Fin 8) (c : Fin 128) :
    Cert.SguRefIdeal.Read.val_main_v67 (F := Ideal) X g b W B (ix2 (tok a (pos n t)) (chan q c))
      = gated (act (X (ix2 (tok a (pos n t)) (ucol (chan q c))))) t (fun s => W (ix3 q t s))
          (fun s => normed (fun c => act (X (ix2 (tok a (pos n s)) (vcol c)))) (chan q c) (g (ix1 (chan q c))) (b (ix1 (chan q c))))
          (B (ix2 q t)) := by
  rw [gated, ← u_apply, ← mixed_apply X g b W B]
  pointwise [Cert.SguRefIdeal.Read.val_main_v67, Cert.SguRefIdeal.Read.val_main_v66, Cert.SguRefIdeal.Read.val_main_v65, Cert.SguRefIdeal.Read.val_main_v64, tok, pos, chan]
  have h : (a.val * 2048 + (n.val * 128 + t.val)) % 2048 = n.val * 128 + t.val := by omega
  simp only [h]

end Cert.SguRefIdeal.Value

end
-- ==== Proof.SguValue.lean ====
/- The spatial gating kernel's result is the reference's array. -/
module

public import proofs.«01_k».proof.Proof.Gen.SguIdeal.Frame
public import proofs.«01_k».proof.Proof.Gen.SguRefIdeal.Read
public import proofs.«01_k».proof.Proof.Gating
public import proofs.«01_k».proof.Proof.SguPay
public import proofs.«01_k».proof.Proof.SguRef
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.SguIdeal.Value

open Cert.SguIdeal Cert.SguIdeal.Gen Cert.Gating
open Cert.SguRefIdeal.Value (tok ucol vcol pos)

variable (m : (ℓ : Loc nD τ sig) → Buf (Elt Ideal) ℓ)

/-- The reference's array. -/
def REF (X : (⟨S32768x6144, .f32⟩ : BufTy).Contents (Elt Ideal)) (g b : (⟨S1024, .f32⟩ : BufTy).Contents (Elt Ideal))
    (W : (⟨S8x128x128, .f32⟩ : BufTy).Contents (Elt Ideal)) (B : (⟨S8x128, .f32⟩ : BufTy).Contents (Elt Ideal)) :
    (⟨S32768x1024, .bf16⟩ : BufTy).Contents (Elt Ideal) := Cert.SguRefIdeal.Read.val_main_v67 (F := Ideal) X g b W B

/-- The windows' block indices at a grid point: a point is a pair of chunks. -/
theorem idx_val : ∀ p : Fin cfg0.N, win0_0.index p = ![p.val, 0] ∧ win0_1.index p = ![p.val, 1] ∧ win0_2.index p = ![0, 0]
    ∧ win0_3.index p = ![0, 0] ∧ win0_4.index p = ![0, 0, 0] ∧ win0_5.index p = ![0, 0] ∧ win0_6.index p = ![p.val, 0] :=
  (by decide +kernel : ∀ p : Fin grid0.N, _)

/-- The sequence a grid point works on. -/
def seqOf (p : Fin cfg0.N) : Fin 16 := ⟨p.val / 8, by have hp : p.val < 128 := p.isLt; omega⟩

/-- The chunk in its sequence of chunk `n` of a grid point's block. -/
def chunkOf (p : Fin cfg0.N) (n : Fin 2) : Fin 16 := ⟨p.val % 8 * 2 + n.val, by omega⟩

/-- The block of the gate, read at one entry. -/
theorem gates_apply (c : Dev nD) (p : Fin cfg0.N) (n : Fin 2) (t : Fin 128) (j : Fin 1024) :
    (show EReal from iblk m c 0 p (ix2 (row n t) j)) = m ((c : Thread nD τ).loc main_arg0) (ix2 (tok (seqOf p) (pos (chunkOf p n) t)) (ucol j)) := by
  have hp : p.val < 128 := p.isLt
  unfold row tok seqOf pos chunkOf ucol
  blk_point [iblk, V, idx_val p]

/-- The block of the mixed half, read at one entry. -/
theorem mixed_apply (c : Dev nD) (p : Fin cfg0.N) (n : Fin 2) (t : Fin 128) (j : Fin 1024) :
    (show EReal from iblk m c 1 p (ix2 (row n t) j)) = m ((c : Thread nD τ).loc main_arg0) (ix2 (tok (seqOf p) (pos (chunkOf p n) t)) (vcol j)) := by
  have hp : p.val < 128 := p.isLt
  unfold row tok seqOf pos chunkOf vcol
  blk_point [iblk, V, idx_val p]

/-- The block of scales, read at one entry. -/
theorem scales_apply (c : Dev nD) (p : Fin cfg0.N) (j : Fin 1024) :
    (show EReal from iblk m c 2 p (ix2 (0 : Fin 1) j)) = m ((c : Thread nD τ).loc main_arg1) (ix1 j) := by
  blk_point [iblk, V, idx_val p]

/-- The block of shifts, read at one entry. -/
theorem shifts_apply (c : Dev nD) (p : Fin cfg0.N) (j : Fin 1024) :
    (show EReal from iblk m c 3 p (ix2 (0 : Fin 1) j)) = m ((c : Thread nD τ).loc main_arg2) (ix1 j) := by
  blk_point [iblk, V, idx_val p]

/-- The block of mixing weights is the whole array. -/
theorem weights_apply (c : Dev nD) (p : Fin cfg0.N) (q : Fin 8) (t s : Fin 128) :
    (show EReal from iblk m c 4 p (ix3 q t s)) = m ((c : Thread nD τ).loc main_arg3) (ix3 q t s) := by
  blk_point [iblk, V, idx_val p]

/-- The block of the positions' shifts repeats each group's column over its channels. -/
theorem bias_apply (c : Dev nD) (p : Fin cfg0.N) (q : Fin 8) (t k : Fin 128) :
    (show EReal from iblk m c 5 p (ix2 t (chan q k))) = m ((c : Thread nD τ).loc main_arg4) (ix2 q t) := by
  unfold chan
  blk_point [iblk, V, idx_val p]

/-- One entry of the reference's array, in terms of a grid point's blocks. -/
theorem tile_blocks (c : Dev nD) (p : Fin cfg0.N) (n : Fin 2) (q : Fin 8) (w : FVec Ideal S1x128x128 .f32) (b : FVec Ideal S128x128 .f32) (t k : Fin 128)
    (hw : ∀ s : Fin 128, w (ix3 (0 : Fin 1) t s) = (show EReal from iblk m c 4 p (ix3 q t s)))
    (hb : b (ix2 t k) = (show EReal from iblk m c 5 p (ix2 t (chan q k)))) :
    tile n q (k0_pay34 (F := Ideal) (iblk m c 0 p) (iblk m c 1 p) (iblk m c 2 p) (iblk m c 3 p) (iblk m c 4 p) (iblk m c 5 p)) (k0_pay39 (F := Ideal) (iblk m c 0 p) (iblk m c 1 p) (iblk m c 2 p) (iblk m c 3 p) (iblk m c 4 p) (iblk m c 5 p)) k0_pay9 w b t k
      = REF (m ((c : Thread nD τ).loc main_arg0)) (m ((c : Thread nD τ).loc main_arg1)) (m ((c : Thread nD τ).loc main_arg2)) (m ((c : Thread nD τ).loc main_arg3)) (m ((c : Thread nD τ).loc main_arg4)) (ix2 (tok (seqOf p) (pos (chunkOf p n) t)) (chan q k)) := by
  refine Eq.trans ?_ (Cert.SguRefIdeal.Value.ref_apply _ _ _ _ _ (seqOf p) (chunkOf p n) t q k).symm
  unfold tile gated
  rw [gate_apply]
  refine congrArg₂ (· * ·) (congrArg act (gates_apply m c p n t (chan q k))) (congrArg₂ (· + ·) (Finset.sum_congr rfl fun s _ => ?_) (hb.trans (bias_apply m c p q t k)))
  rw [normed_apply, mask_apply, select_causal, hw s]
  refine congrArg₂ (· * ·) (congrArg (causal t s) (weights_apply m c p q t s)) ?_
  rw [show (fun k : Fin 1024 => act (iblk m c 1 p (ix2 (row n s) k))) = fun k => act (m ((c : Thread nD τ).loc main_arg0) (ix2 (tok (seqOf p) (pos (chunkOf p n) s)) (vcol k)))
    from funext fun k => congrArg act (mixed_apply m c p n s k)]
  exact congrArg₂ (normed _ _) (scales_apply m c p (chan q k)) (shifts_apply m c p (chan q k))

/-- The place in the result of an entry of a grid point's tile. -/
theorem place (p : Fin cfg0.N) (y : S256x1024.Idx) (t k : Fin 128) (n : Fin 2) (q : Fin 8) (h0 : (y 0).val = n.val * 128 + t.val) (h1 : (y 1).val = q.val * 128 + k.val) :
    ((cfg0.win 6).blk p).view.emb y = ix2 (tok (seqOf p) (pos (chunkOf p n) t)) (chan q k) := by
  unfold tok seqOf pos chunkOf chan
  blk_ext [idx_val p]

set_option maxHeartbeats 4000000 in
/-- What one grid point stores is the reference's array at the place where the block lies. -/
theorem point (c : Dev nD) (p : Fin cfg0.N) (y) :
    out0_6 (iblk m c 0 p) (iblk m c 1 p) (iblk m c 2 p) (iblk m c 3 p) (iblk m c 4 p) (iblk m c 5 p) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk p).view.emb y) := by
  unfold out0_6
  canon_tiles x h
  · idx_vars x
    rw [place p y x0 x1 1 7 (by show _ = 1 * 128 + _; omega) (by show _ = 7 * 128 + _; omega), ← tile_blocks m c p 1 7 _ _ x0 x1 (fun s => ?_) ?_]
    · exact tile17 _ _ _ _ _ x0 x1
    · pointwise
      exact congrArg (fun z : Fin 1024 => iblk m c 5 p (ix2 x0 z)) (Fin.ext (by show 896 + x1.val = 7 * 128 + x1.val; omega))
    · pointwise
  · idx_vars x
    rw [place p y x0 x1 0 7 (by show _ = 0 * 128 + _; omega) (by show _ = 7 * 128 + _; omega), ← tile_blocks m c p 0 7 _ _ x0 x1 (fun s => ?_) ?_]
    · exact tile07 _ _ _ _ _ x0 x1
    · pointwise
      exact congrArg (fun z : Fin 1024 => iblk m c 5 p (ix2 x0 z)) (Fin.ext (by show 896 + x1.val = 7 * 128 + x1.val; omega))
    · pointwise
  · idx_vars x
    rw [place p y x0 x1 1 6 (by show _ = 1 * 128 + _; omega) (by show _ = 6 * 128 + _; omega), ← tile_blocks m c p 1 6 _ _ x0 x1 (fun s => ?_) ?_]
    · exact tile16 _ _ _ _ _ x0 x1
    · pointwise
      exact congrArg (fun z : Fin 1024 => iblk m c 5 p (ix2 x0 z)) (Fin.ext (by show 768 + x1.val = 6 * 128 + x1.val; omega))
    · pointwise
  · idx_vars x
    rw [place p y x0 x1 0 6 (by show _ = 0 * 128 + _; omega) (by show _ = 6 * 128 + _; omega), ← tile_blocks m c p 0 6 _ _ x0 x1 (fun s => ?_) ?_]
    · exact tile06 _ _ _ _ _ x0 x1
    · pointwise
      exact congrArg (fun z : Fin 1024 => iblk m c 5 p (ix2 x0 z)) (Fin.ext (by show 768 + x1.val = 6 * 128 + x1.val; omega))
    · pointwise
  · idx_vars x
    rw [place p y x0 x1 1 5 (by show _ = 1 * 128 + _; omega) (by show _ = 5 * 128 + _; omega), ← tile_blocks m c p 1 5 _ _ x0 x1 (fun s => ?_) ?_]
    · exact tile15 _ _ _ _ _ x0 x1
    · pointwise
      exact congrArg (fun z : Fin 1024 => iblk m c 5 p (ix2 x0 z)) (Fin.ext (by show 640 + x1.val = 5 * 128 + x1.val; omega))
    · pointwise
  · idx_vars x
    rw [place p y x0 x1 0 5 (by show _ = 0 * 128 + _; omega) (by show _ = 5 * 128 + _; omega), ← tile_blocks m c p 0 5 _ _ x0 x1 (fun s => ?_) ?_]
    · exact tile05 _ _ _ _ _ x0 x1
    · pointwise
      exact congrArg (fun z : Fin 1024 => iblk m c 5 p (ix2 x0 z)) (Fin.ext (by show 640 + x1.val = 5 * 128 + x1.val; omega))
    · pointwise
  · idx_vars x
    rw [place p y x0 x1 1 4 (by show _ = 1 * 128 + _; omega) (by show _ = 4 * 128 + _; omega), ← tile_blocks m c p 1 4 _ _ x0 x1 (fun s => ?_) ?_]
    · exact tile14 _ _ _ _ _ x0 x1
    · pointwise
      exact congrArg (fun z : Fin 1024 => iblk m c 5 p (ix2 x0 z)) (Fin.ext (by show 512 + x1.val = 4 * 128 + x1.val; omega))
    · pointwise
  · idx_vars x
    rw [place p y x0 x1 0 4 (by show _ = 0 * 128 + _; omega) (by show _ = 4 * 128 + _; omega), ← tile_blocks m c p 0 4 _ _ x0 x1 (fun s => ?_) ?_]
    · exact tile04 _ _ _ _ _ x0 x1
    · pointwise
      exact congrArg (fun z : Fin 1024 => iblk m c 5 p (ix2 x0 z)) (Fin.ext (by show 512 + x1.val = 4 * 128 + x1.val; omega))
    · pointwise
  · idx_vars x
    rw [place p y x0 x1 1 3 (by show _ = 1 * 128 + _; omega) (by show _ = 3 * 128 + _; omega), ← tile_blocks m c p 1 3 _ _ x0 x1 (fun s => ?_) ?_]
    · exact tile13 _ _ _ _ _ x0 x1
    · pointwise
      exact congrArg (fun z : Fin 1024 => iblk m c 5 p (ix2 x0 z)) (Fin.ext (by show 384 + x1.val = 3 * 128 + x1.val; omega))
    · pointwise
  · idx_vars x
    rw [place p y x0 x1 0 3 (by show _ = 0 * 128 + _; omega) (by show _ = 3 * 128 + _; omega), ← tile_blocks m c p 0 3 _ _ x0 x1 (fun s => ?_) ?_]
    · exact tile03 _ _ _ _ _ x0 x1
    · pointwise
      exact congrArg (fun z : Fin 1024 => iblk m c 5 p (ix2 x0 z)) (Fin.ext (by show 384 + x1.val = 3 * 128 + x1.val; omega))
    · pointwise
  · idx_vars x
    rw [place p y x0 x1 1 2 (by show _ = 1 * 128 + _; omega) (by show _ = 2 * 128 + _; omega), ← tile_blocks m c p 1 2 _ _ x0 x1 (fun s => ?_) ?_]
    · exact tile12 _ _ _ _ _ x0 x1
    · pointwise
      exact congrArg (fun z : Fin 1024 => iblk m c 5 p (ix2 x0 z)) (Fin.ext (by show 256 + x1.val = 2 * 128 + x1.val; omega))
    · pointwise
  · idx_vars x
    rw [place p y x0 x1 0 2 (by show _ = 0 * 128 + _; omega) (by show _ = 2 * 128 + _; omega), ← tile_blocks m c p 0 2 _ _ x0 x1 (fun s => ?_) ?_]
    · exact tile02 _ _ _ _ _ x0 x1
    · pointwise
      exact congrArg (fun z : Fin 1024 => iblk m c 5 p (ix2 x0 z)) (Fin.ext (by show 256 + x1.val = 2 * 128 + x1.val; omega))
    · pointwise
  · idx_vars x
    rw [place p y x0 x1 1 1 (by show _ = 1 * 128 + _; omega) (by show _ = 1 * 128 + _; omega), ← tile_blocks m c p 1 1 _ _ x0 x1 (fun s => ?_) ?_]
    · exact tile11 _ _ _ _ _ x0 x1
    · pointwise
      exact congrArg (fun z : Fin 1024 => iblk m c 5 p (ix2 x0 z)) (Fin.ext (by show 128 + x1.val = 1 * 128 + x1.val; omega))
    · pointwise
  · idx_vars x
    rw [place p y x0 x1 0 1 (by show _ = 0 * 128 + _; omega) (by show _ = 1 * 128 + _; omega), ← tile_blocks m c p 0 1 _ _ x0 x1 (fun s => ?_) ?_]
    · exact tile01 _ _ _ _ _ x0 x1
    · pointwise
      exact congrArg (fun z : Fin 1024 => iblk m c 5 p (ix2 x0 z)) (Fin.ext (by show 128 + x1.val = 1 * 128 + x1.val; omega))
    · pointwise
  · idx_vars x
    rw [place p y x0 x1 1 0 (by show _ = 1 * 128 + _; omega) (by show _ = 0 * 128 + _; omega), ← tile_blocks m c p 1 0 _ _ x0 x1 (fun s => ?_) ?_]
    · exact tile10 _ _ _ _ _ _ _ x0 x1
    · pointwise
      exact congrArg (fun z : Fin 1024 => iblk m c 5 p (ix2 x0 z)) (Fin.ext (by show x1.val = 0 * 128 + x1.val; omega))
    · pointwise
  · idx_vars x
    rw [place p y x0 x1 0 0 (by show _ = 0 * 128 + _; omega) (by show _ = 0 * 128 + _; omega), ← tile_blocks m c p 0 0 _ _ x0 x1 (fun s => ?_) ?_]
    · exact tile00 _ _ _ _ _ _ _ x0 x1
    · pointwise
      exact congrArg (fun z : Fin 1024 => iblk m c 5 p (ix2 x0 z)) (Fin.ext (by show x1.val = 0 * 128 + x1.val; omega))
    · pointwise

/-- The result array after the run is the reference's. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun p hf y => ?_
  blk_simp; rw [after0_6]
  exact point m c p y

/-- The kernel's result and the reference's are the same array over the extended reals. -/
theorem algebraic : Cert.algebraic_SguIdeal_SguRefIdeal := by
  pair_intro
  · run_from Cert.SguIdeal.Gen.run_main m g
  · hlo_run
    exact (Cert.SguIdeal.Value.final m c).symm

end Cert.SguIdeal.Value

end
-- ==== Proof.RouteNet.lean ====
/- Sixteen slabs, the networks of maxima and minima that sort and merge them, and what they compute. -/
module

public import Mathlib.Tactic.FinCases
public import Idealize.ShloMosaic.Lib.SortNet.Sorts
public import Idealize.ShloMosaic.Lib.SortNet.Fold
public import Idealize.ShloMosaic.Lib.SortNet.TopList
public import Idealize.ShloMosaic.Lib.SortNet.Threshold

@[expose] public section

set_option maxRecDepth 16384

noncomputable section

namespace Cert.RouteNet

open Idealize.ShloMosaic.SortNet

/-- Sixteen values. -/
structure Slabs (α : Type) where
  (s0 s1 s2 s3 s4 s5 s6 s7 s8 s9 s10 s11 s12 s13 s14 s15 : α)

variable {α β : Type}

/-- The value in place `i`. -/
def Slabs.get (x : Slabs α) (i : Fin 16) : α :=
  match i.val with
  | 0 => x.s0
  | 1 => x.s1
  | 2 => x.s2
  | 3 => x.s3
  | 4 => x.s4
  | 5 => x.s5
  | 6 => x.s6
  | 7 => x.s7
  | 8 => x.s8
  | 9 => x.s9
  | 10 => x.s10
  | 11 => x.s11
  | 12 => x.s12
  | 13 => x.s13
  | 14 => x.s14
  | _ => x.s15

/-- A function applied in every place. -/
def Slabs.map (f : α → β) (x : Slabs α) : Slabs β := ⟨f x.s0, f x.s1, f x.s2, f x.s3, f x.s4, f x.s5, f x.s6, f x.s7, f x.s8, f x.s9, f x.s10, f x.s11, f x.s12, f x.s13, f x.s14, f x.s15⟩

theorem get_map (f : α → β) (x : Slabs α) (i : Fin 16) : (x.map f).get i = f (x.get i) := by
  fin_cases i <;> rfl

/-- The exchanges at distance 1 with runs of 2. -/
def step00 (mx mn : α → α → α) (x : Slabs α) : Slabs α := ⟨mx x.s0 x.s1, mn x.s0 x.s1, mn x.s3 x.s2, mx x.s3 x.s2, mx x.s4 x.s5, mn x.s4 x.s5, mn x.s7 x.s6, mx x.s7 x.s6, mx x.s8 x.s9, mn x.s8 x.s9, mn x.s11 x.s10, mx x.s11 x.s10, mx x.s12 x.s13, mn x.s12 x.s13, mn x.s15 x.s14, mx x.s15 x.s14⟩

/-- The exchanges at distance 2 with runs of 4. -/
def step11 (mx mn : α → α → α) (x : Slabs α) : Slabs α := ⟨mx x.s0 x.s2, mx x.s1 x.s3, mn x.s0 x.s2, mn x.s1 x.s3, mn x.s6 x.s4, mn x.s7 x.s5, mx x.s6 x.s4, mx x.s7 x.s5, mx x.s8 x.s10, mx x.s9 x.s11, mn x.s8 x.s10, mn x.s9 x.s11, mn x.s14 x.s12, mn x.s15 x.s13, mx x.s14 x.s12, mx x.s15 x.s13⟩

/-- The exchanges at distance 1 with runs of 4. -/
def step10 (mx mn : α → α → α) (x : Slabs α) : Slabs α := ⟨mx x.s0 x.s1, mn x.s0 x.s1, mx x.s2 x.s3, mn x.s2 x.s3, mn x.s5 x.s4, mx x.s5 x.s4, mn x.s7 x.s6, mx x.s7 x.s6, mx x.s8 x.s9, mn x.s8 x.s9, mx x.s10 x.s11, mn x.s10 x.s11, mn x.s13 x.s12, mx x.s13 x.s12, mn x.s15 x.s14, mx x.s15 x.s14⟩

/-- The exchanges at distance 4 with runs of 8. -/
def step22 (mx mn : α → α → α) (x : Slabs α) : Slabs α := ⟨mx x.s0 x.s4, mx x.s1 x.s5, mx x.s2 x.s6, mx x.s3 x.s7, mn x.s0 x.s4, mn x.s1 x.s5, mn x.s2 x.s6, mn x.s3 x.s7, mn x.s12 x.s8, mn x.s13 x.s9, mn x.s14 x.s10, mn x.s15 x.s11, mx x.s12 x.s8, mx x.s13 x.s9, mx x.s14 x.s10, mx x.s15 x.s11⟩

/-- The exchanges at distance 2 with runs of 8. -/
def step21 (mx mn : α → α → α) (x : Slabs α) : Slabs α := ⟨mx x.s0 x.s2, mx x.s1 x.s3, mn x.s0 x.s2, mn x.s1 x.s3, mx x.s4 x.s6, mx x.s5 x.s7, mn x.s4 x.s6, mn x.s5 x.s7, mn x.s10 x.s8, mn x.s11 x.s9, mx x.s10 x.s8, mx x.s11 x.s9, mn x.s14 x.s12, mn x.s15 x.s13, mx x.s14 x.s12, mx x.s15 x.s13⟩

/-- The exchanges at distance 1 with runs of 8. -/
def step20 (mx mn : α → α → α) (x : Slabs α) : Slabs α := ⟨mx x.s0 x.s1, mn x.s0 x.s1, mx x.s2 x.s3, mn x.s2 x.s3, mx x.s4 x.s5, mn x.s4 x.s5, mx x.s6 x.s7, mn x.s6 x.s7, mn x.s9 x.s8, mx x.s9 x.s8, mn x.s11 x.s10, mx x.s11 x.s10, mn x.s13 x.s12, mx x.s13 x.s12, mn x.s15 x.s14, mx x.s15 x.s14⟩

/-- The exchanges at distance 8 with runs of 16. -/
def step33 (mx mn : α → α → α) (x : Slabs α) : Slabs α := ⟨mx x.s0 x.s8, mx x.s1 x.s9, mx x.s2 x.s10, mx x.s3 x.s11, mx x.s4 x.s12, mx x.s5 x.s13, mx x.s6 x.s14, mx x.s7 x.s15, mn x.s0 x.s8, mn x.s1 x.s9, mn x.s2 x.s10, mn x.s3 x.s11, mn x.s4 x.s12, mn x.s5 x.s13, mn x.s6 x.s14, mn x.s7 x.s15⟩

/-- The exchanges at distance 4 with runs of 16. -/
def step32 (mx mn : α → α → α) (x : Slabs α) : Slabs α := ⟨mx x.s0 x.s4, mx x.s1 x.s5, mx x.s2 x.s6, mx x.s3 x.s7, mn x.s0 x.s4, mn x.s1 x.s5, mn x.s2 x.s6, mn x.s3 x.s7, mx x.s8 x.s12, mx x.s9 x.s13, mx x.s10 x.s14, mx x.s11 x.s15, mn x.s8 x.s12, mn x.s9 x.s13, mn x.s10 x.s14, mn x.s11 x.s15⟩

/-- The exchanges at distance 2 with runs of 16. -/
def step31 (mx mn : α → α → α) (x : Slabs α) : Slabs α := ⟨mx x.s0 x.s2, mx x.s1 x.s3, mn x.s0 x.s2, mn x.s1 x.s3, mx x.s4 x.s6, mx x.s5 x.s7, mn x.s4 x.s6, mn x.s5 x.s7, mx x.s8 x.s10, mx x.s9 x.s11, mn x.s8 x.s10, mn x.s9 x.s11, mx x.s12 x.s14, mx x.s13 x.s15, mn x.s12 x.s14, mn x.s13 x.s15⟩

/-- The exchanges at distance 1 with runs of 16. -/
def step30 (mx mn : α → α → α) (x : Slabs α) : Slabs α := ⟨mx x.s0 x.s1, mn x.s0 x.s1, mx x.s2 x.s3, mn x.s2 x.s3, mx x.s4 x.s5, mn x.s4 x.s5, mx x.s6 x.s7, mn x.s6 x.s7, mx x.s8 x.s9, mn x.s8 x.s9, mx x.s10 x.s11, mn x.s10 x.s11, mx x.s12 x.s13, mn x.s12 x.s13, mx x.s14 x.s15, mn x.s14 x.s15⟩

/-- The merge of a sequence that falls and then rises. -/
def fall (mx mn : α → α → α) (x : Slabs α) : Slabs α := step30 mx mn (step31 mx mn (step32 mx mn (step33 mx mn x)))

/-- The runs of eight, in alternating directions. -/
def runs (mx mn : α → α → α) (x : Slabs α) : Slabs α := step20 mx mn (step21 mx mn (step22 mx mn (step10 mx mn (step11 mx mn (step00 mx mn x)))))

/-- The sort, the greatest first. -/
def sort (mx mn : α → α → α) (x : Slabs α) : Slabs α := fall mx mn (runs mx mn x)

/-- The greater of each place and its mirror place. -/
def mirror (mx : α → α → α) (x y : Slabs α) : Slabs α := ⟨mx x.s0 y.s15, mx x.s1 y.s14, mx x.s2 y.s13, mx x.s3 y.s12, mx x.s4 y.s11, mx x.s5 y.s10, mx x.s6 y.s9, mx x.s7 y.s8, mx x.s8 y.s7, mx x.s9 y.s6, mx x.s10 y.s5, mx x.s11 y.s4, mx x.s12 y.s3, mx x.s13 y.s2, mx x.s14 y.s1, mx x.s15 y.s0⟩

/-- The sixteen greatest of two falling sequences. -/
def merge (mx mn : α → α → α) (x y : Slabs α) : Slabs α := fall mx mn (mirror mx x y)

section maps
variable (f : α → β) (mx mn : α → α → α) (mx' mn' : β → β → β) (hx : ∀ a b, f (mx a b) = mx' (f a) (f b)) (hn : ∀ a b, f (mn a b) = mn' (f a) (f b))
include hx hn

theorem map_step00 (x : Slabs α) : (step00 mx mn x).map f = step00 mx' mn' (x.map f) := by
  simp only [step00, Slabs.map, hx, hn]

theorem map_step11 (x : Slabs α) : (step11 mx mn x).map f = step11 mx' mn' (x.map f) := by
  simp only [step11, Slabs.map, hx, hn]

theorem map_step10 (x : Slabs α) : (step10 mx mn x).map f = step10 mx' mn' (x.map f) := by
  simp only [step10, Slabs.map, hx, hn]

theorem map_step22 (x : Slabs α) : (step22 mx mn x).map f = step22 mx' mn' (x.map f) := by
  simp only [step22, Slabs.map, hx, hn]

theorem map_step21 (x : Slabs α) : (step21 mx mn x).map f = step21 mx' mn' (x.map f) := by
  simp only [step21, Slabs.map, hx, hn]

theorem map_step20 (x : Slabs α) : (step20 mx mn x).map f = step20 mx' mn' (x.map f) := by
  simp only [step20, Slabs.map, hx, hn]

theorem map_step33 (x : Slabs α) : (step33 mx mn x).map f = step33 mx' mn' (x.map f) := by
  simp only [step33, Slabs.map, hx, hn]

theorem map_step32 (x : Slabs α) : (step32 mx mn x).map f = step32 mx' mn' (x.map f) := by
  simp only [step32, Slabs.map, hx, hn]

theorem map_step31 (x : Slabs α) : (step31 mx mn x).map f = step31 mx' mn' (x.map f) := by
  simp only [step31, Slabs.map, hx, hn]

theorem map_step30 (x : Slabs α) : (step30 mx mn x).map f = step30 mx' mn' (x.map f) := by
  simp only [step30, Slabs.map, hx, hn]

theorem map_fall (x : Slabs α) : (fall mx mn x).map f = fall mx' mn' (x.map f) := by
  unfold fall
  rw [map_step30 f mx mn mx' mn' hx hn, map_step31 f mx mn mx' mn' hx hn, map_step32 f mx mn mx' mn' hx hn, map_step33 f mx mn mx' mn' hx hn]

theorem map_runs (x : Slabs α) : (runs mx mn x).map f = runs mx' mn' (x.map f) := by
  unfold runs
  rw [map_step20 f mx mn mx' mn' hx hn, map_step21 f mx mn mx' mn' hx hn, map_step22 f mx mn mx' mn' hx hn, map_step10 f mx mn mx' mn' hx hn, map_step11 f mx mn mx' mn' hx hn, map_step00 f mx mn mx' mn' hx hn]

theorem map_sort (x : Slabs α) : (sort mx mn x).map f = sort mx' mn' (x.map f) := by
  unfold sort
  rw [map_fall f mx mn mx' mn' hx hn, map_runs f mx mn mx' mn' hx hn]

theorem map_merge (x y : Slabs α) : (merge mx mn x y).map f = merge mx' mn' (x.map f) (y.map f) := by
  unfold merge
  rw [map_fall f mx mn mx' mn' hx hn]
  simp only [mirror, Slabs.map, hx]

end maps

section order
variable [LinearOrder α]

theorem stage_up (s : ℕ) (hs : s < 4) (w : Fin (2 ^ 4) → Bool) (v : Fin (2 ^ 4) → α) (i j : Fin (2 ^ 4)) (hi : i.val &&& 2 ^ s = 0) (hj : partner 4 s i = j) (hw : w i = true) :
    Network.apply (stage 4 s w) v i = max (v i) (v j) ∧ Network.apply (stage 4 s w) v j = min (v i) (v j) := by
  subst hj
  have h := apply_stage hs w v i hi
  simpa only [hw, if_true] using h

theorem stage_down (s : ℕ) (hs : s < 4) (w : Fin (2 ^ 4) → Bool) (v : Fin (2 ^ 4) → α) (i j : Fin (2 ^ 4)) (hi : i.val &&& 2 ^ s = 0) (hj : partner 4 s i = j) (hw : w i = false) :
    Network.apply (stage 4 s w) v i = min (v j) (v i) ∧ Network.apply (stage 4 s w) v j = max (v j) (v i) := by
  subst hj
  have h := apply_stage hs w v i hi
  rw [max_comm, min_comm] at h
  simpa only [hw, Bool.false_eq_true, if_false, max_comm, min_comm] using h

theorem step00_eq (x : Slabs α) : (step00 max min x).get = Network.apply (stage 4 0 (fun i : Fin (2 ^ 4) => (decide (i.val &&& 2 ^ (0 + 1) = 0)) == true)) x.get := by
  funext i
  fin_cases i
  · exact (stage_up 0 (by decide) (fun i : Fin (2 ^ 4) => (decide (i.val &&& 2 ^ (0 + 1) = 0)) == true) x.get ⟨0, by decide⟩ ⟨1, by decide⟩ (by decide) (by decide) (by decide)).1.symm
  · exact (stage_up 0 (by decide) (fun i : Fin (2 ^ 4) => (decide (i.val &&& 2 ^ (0 + 1) = 0)) == true) x.get ⟨0, by decide⟩ ⟨1, by decide⟩ (by decide) (by decide) (by decide)).2.symm
  · exact (stage_down 0 (by decide) (fun i : Fin (2 ^ 4) => (decide (i.val &&& 2 ^ (0 + 1) = 0)) == true) x.get ⟨2, by decide⟩ ⟨3, by decide⟩ (by decide) (by decide) (by decide)).1.symm
  · exact (stage_down 0 (by decide) (fun i : Fin (2 ^ 4) => (decide (i.val &&& 2 ^ (0 + 1) = 0)) == true) x.get ⟨2, by decide⟩ ⟨3, by decide⟩ (by decide) (by decide) (by decide)).2.symm
  · exact (stage_up 0 (by decide) (fun i : Fin (2 ^ 4) => (decide (i.val &&& 2 ^ (0 + 1) = 0)) == true) x.get ⟨4, by decide⟩ ⟨5, by decide⟩ (by decide) (by decide) (by decide)).1.symm
  · exact (stage_up 0 (by decide) (fun i : Fin (2 ^ 4) => (decide (i.val &&& 2 ^ (0 + 1) = 0)) == true) x.get ⟨4, by decide⟩ ⟨5, by decide⟩ (by decide) (by decide) (by decide)).2.symm
  · exact (stage_down 0 (by decide) (fun i : Fin (2 ^ 4) => (decide (i.val &&& 2 ^ (0 + 1) = 0)) == true) x.get ⟨6, by decide⟩ ⟨7, by decide⟩ (by decide) (by decide) (by decide)).1.symm
  · exact (stage_down 0 (by decide) (fun i : Fin (2 ^ 4) => (decide (i.val &&& 2 ^ (0 + 1) = 0)) == true) x.get ⟨6, by decide⟩ ⟨7, by decide⟩ (by decide) (by decide) (by decide)).2.symm
  · exact (stage_up 0 (by decide) (fun i : Fin (2 ^ 4) => (decide (i.val &&& 2 ^ (0 + 1) = 0)) == true) x.get ⟨8, by decide⟩ ⟨9, by decide⟩ (by decide) (by decide) (by decide)).1.symm
  · exact (stage_up 0 (by decide) (fun i : Fin (2 ^ 4) => (decide (i.val &&& 2 ^ (0 + 1) = 0)) == true) x.get ⟨8, by decide⟩ ⟨9, by decide⟩ (by decide) (by decide) (by decide)).2.symm
  · exact (stage_down 0 (by decide) (fun i : Fin (2 ^ 4) => (decide (i.val &&& 2 ^ (0 + 1) = 0)) == true) x.get ⟨10, by decide⟩ ⟨11, by decide⟩ (by decide) (by decide) (by decide)).1.symm
  · exact (stage_down 0 (by decide) (fun i : Fin (2 ^ 4) => (decide (i.val &&& 2 ^ (0 + 1) = 0)) == true) x.get ⟨10, by decide⟩ ⟨11, by decide⟩ (by decide) (by decide) (by decide)).2.symm
  · exact (stage_up 0 (by decide) (fun i : Fin (2 ^ 4) => (decide (i.val &&& 2 ^ (0 + 1) = 0)) == true) x.get ⟨12, by decide⟩ ⟨13, by decide⟩ (by decide) (by decide) (by decide)).1.symm
  · exact (stage_up 0 (by decide) (fun i : Fin (2 ^ 4) => (decide (i.val &&& 2 ^ (0 + 1) = 0)) == true) x.get ⟨12, by decide⟩ ⟨13, by decide⟩ (by decide) (by decide) (by decide)).2.symm
  · exact (stage_down 0 (by decide) (fun i : Fin (2 ^ 4) => (decide (i.val &&& 2 ^ (0 + 1) = 0)) == true) x.get ⟨14, by decide⟩ ⟨15, by decide⟩ (by decide) (by decide) (by decide)).1.symm
  · exact (stage_down 0 (by decide) (fun i : Fin (2 ^ 4) => (decide (i.val &&& 2 ^ (0 + 1) = 0)) == true) x.get ⟨14, by decide⟩ ⟨15, by decide⟩ (by decide) (by decide) (by decide)).2.symm

theorem step11_eq (x : Slabs α) : (step11 max min x).get = Network.apply (stage 4 1 (fun i : Fin (2 ^ 4) => (decide (i.val &&& 2 ^ (1 + 1) = 0)) == true)) x.get := by
  funext i
  fin_cases i
  · exact (stage_up 1 (by decide) (fun i : Fin (2 ^ 4) => (decide (i.val &&& 2 ^ (1 + 1) = 0)) == true) x.get ⟨0, by decide⟩ ⟨2, by decide⟩ (by decide) (by decide) (by decide)).1.symm
  · exact (stage_up 1 (by decide) (fun i : Fin (2 ^ 4) => (decide (i.val &&& 2 ^ (1 + 1) = 0)) == true) x.get ⟨1, by decide⟩ ⟨3, by decide⟩ (by decide) (by decide) (by decide)).1.symm
  · exact (stage_up 1 (by decide) (fun i : Fin (2 ^ 4) => (decide (i.val &&& 2 ^ (1 + 1) = 0)) == true) x.get ⟨0, by decide⟩ ⟨2, by decide⟩ (by decide) (by decide) (by decide)).2.symm
  · exact (stage_up 1 (by decide) (fun i : Fin (2 ^ 4) => (decide (i.val &&& 2 ^ (1 + 1) = 0)) == true) x.get ⟨1, by decide⟩ ⟨3, by decide⟩ (by decide) (by decide) (by decide)).2.symm
  · exact (stage_down 1 (by decide) (fun i : Fin (2 ^ 4) => (decide (i.val &&& 2 ^ (1 + 1) = 0)) == true) x.get ⟨4, by decide⟩ ⟨6, by decide⟩ (by decide) (by decide) (by decide)).1.symm
  · exact (stage_down 1 (by decide) (fun i : Fin (2 ^ 4) => (decide (i.val &&& 2 ^ (1 + 1) = 0)) == true) x.get ⟨5, by decide⟩ ⟨7, by decide⟩ (by decide) (by decide) (by decide)).1.symm
  · exact (stage_down 1 (by decide) (fun i : Fin (2 ^ 4) => (decide (i.val &&& 2 ^ (1 + 1) = 0)) == true) x.get ⟨4, by decide⟩ ⟨6, by decide⟩ (by decide) (by decide) (by decide)).2.symm
  · exact (stage_down 1 (by decide) (fun i : Fin (2 ^ 4) => (decide (i.val &&& 2 ^ (1 + 1) = 0)) == true) x.get ⟨5, by decide⟩ ⟨7, by decide⟩ (by decide) (by decide) (by decide)).2.symm
  · exact (stage_up 1 (by decide) (fun i : Fin (2 ^ 4) => (decide (i.val &&& 2 ^ (1 + 1) = 0)) == true) x.get ⟨8, by decide⟩ ⟨10, by decide⟩ (by decide) (by decide) (by decide)).1.symm
  · exact (stage_up 1 (by decide) (fun i : Fin (2 ^ 4) => (decide (i.val &&& 2 ^ (1 + 1) = 0)) == true) x.get ⟨9, by decide⟩ ⟨11, by decide⟩ (by decide) (by decide) (by decide)).1.symm
  · exact (stage_up 1 (by decide) (fun i : Fin (2 ^ 4) => (decide (i.val &&& 2 ^ (1 + 1) = 0)) == true) x.get ⟨8, by decide⟩ ⟨10, by decide⟩ (by decide) (by decide) (by decide)).2.symm
  · exact (stage_up 1 (by decide) (fun i : Fin (2 ^ 4) => (decide (i.val &&& 2 ^ (1 + 1) = 0)) == true) x.get ⟨9, by decide⟩ ⟨11, by decide⟩ (by decide) (by decide) (by decide)).2.symm
  · exact (stage_down 1 (by decide) (fun i : Fin (2 ^ 4) => (decide (i.val &&& 2 ^ (1 + 1) = 0)) == true) x.get ⟨12, by decide⟩ ⟨14, by decide⟩ (by decide) (by decide) (by decide)).1.symm
  · exact (stage_down 1 (by decide) (fun i : Fin (2 ^ 4) => (decide (i.val &&& 2 ^ (1 + 1) = 0)) == true) x.get ⟨13, by decide⟩ ⟨15, by decide⟩ (by decide) (by decide) (by decide)).1.symm
  · exact (stage_down 1 (by decide) (fun i : Fin (2 ^ 4) => (decide (i.val &&& 2 ^ (1 + 1) = 0)) == true) x.get ⟨12, by decide⟩ ⟨14, by decide⟩ (by decide) (by decide) (by decide)).2.symm
  · exact (stage_down 1 (by decide) (fun i : Fin (2 ^ 4) => (decide (i.val &&& 2 ^ (1 + 1) = 0)) == true) x.get ⟨13, by decide⟩ ⟨15, by decide⟩ (by decide) (by decide) (by decide)).2.symm

theorem step10_eq (x : Slabs α) : (step10 max min x).get = Network.apply (stage 4 0 (fun i : Fin (2 ^ 4) => (decide (i.val &&& 2 ^ (1 + 1) = 0)) == true)) x.get := by
  funext i
  fin_cases i
  · exact (stage_up 0 (by decide) (fun i : Fin (2 ^ 4) => (decide (i.val &&& 2 ^ (1 + 1) = 0)) == true) x.get ⟨0, by decide⟩ ⟨1, by decide⟩ (by decide) (by decide) (by decide)).1.symm
  · exact (stage_up 0 (by decide) (fun i : Fin (2 ^ 4) => (decide (i.val &&& 2 ^ (1 + 1) = 0)) == true) x.get ⟨0, by decide⟩ ⟨1, by decide⟩ (by decide) (by decide) (by decide)).2.symm
  · exact (stage_up 0 (by decide) (fun i : Fin (2 ^ 4) => (decide (i.val &&& 2 ^ (1 + 1) = 0)) == true) x.get ⟨2, by decide⟩ ⟨3, by decide⟩ (by decide) (by decide) (by decide)).1.symm
  · exact (stage_up 0 (by decide) (fun i : Fin (2 ^ 4) => (decide (i.val &&& 2 ^ (1 + 1) = 0)) == true) x.get ⟨2, by decide⟩ ⟨3, by decide⟩ (by decide) (by decide) (by decide)).2.symm
  · exact (stage_down 0 (by decide) (fun i : Fin (2 ^ 4) => (decide (i.val &&& 2 ^ (1 + 1) = 0)) == true) x.get ⟨4, by decide⟩ ⟨5, by decide⟩ (by decide) (by decide) (by decide)).1.symm
  · exact (stage_down 0 (by decide) (fun i : Fin (2 ^ 4) => (decide (i.val &&& 2 ^ (1 + 1) = 0)) == true) x.get ⟨4, by decide⟩ ⟨5, by decide⟩ (by decide) (by decide) (by decide)).2.symm
  · exact (stage_down 0 (by decide) (fun i : Fin (2 ^ 4) => (decide (i.val &&& 2 ^ (1 + 1) = 0)) == true) x.get ⟨6, by decide⟩ ⟨7, by decide⟩ (by decide) (by decide) (by decide)).1.symm
  · exact (stage_down 0 (by decide) (fun i : Fin (2 ^ 4) => (decide (i.val &&& 2 ^ (1 + 1) = 0)) == true) x.get ⟨6, by decide⟩ ⟨7, by decide⟩ (by decide) (by decide) (by decide)).2.symm
  · exact (stage_up 0 (by decide) (fun i : Fin (2 ^ 4) => (decide (i.val &&& 2 ^ (1 + 1) = 0)) == true) x.get ⟨8, by decide⟩ ⟨9, by decide⟩ (by decide) (by decide) (by decide)).1.symm
  · exact (stage_up 0 (by decide) (fun i : Fin (2 ^ 4) => (decide (i.val &&& 2 ^ (1 + 1) = 0)) == true) x.get ⟨8, by decide⟩ ⟨9, by decide⟩ (by decide) (by decide) (by decide)).2.symm
  · exact (stage_up 0 (by decide) (fun i : Fin (2 ^ 4) => (decide (i.val &&& 2 ^ (1 + 1) = 0)) == true) x.get ⟨10, by decide⟩ ⟨11, by decide⟩ (by decide) (by decide) (by decide)).1.symm
  · exact (stage_up 0 (by decide) (fun i : Fin (2 ^ 4) => (decide (i.val &&& 2 ^ (1 + 1) = 0)) == true) x.get ⟨10, by decide⟩ ⟨11, by decide⟩ (by decide) (by decide) (by decide)).2.symm
  · exact (stage_down 0 (by decide) (fun i : Fin (2 ^ 4) => (decide (i.val &&& 2 ^ (1 + 1) = 0)) == true) x.get ⟨12, by decide⟩ ⟨13, by decide⟩ (by decide) (by decide) (by decide)).1.symm
  · exact (stage_down 0 (by decide) (fun i : Fin (2 ^ 4) => (decide (i.val &&& 2 ^ (1 + 1) = 0)) == true) x.get ⟨12, by decide⟩ ⟨13, by decide⟩ (by decide) (by decide) (by decide)).2.symm
  · exact (stage_down 0 (by decide) (fun i : Fin (2 ^ 4) => (decide (i.val &&& 2 ^ (1 + 1) = 0)) == true) x.get ⟨14, by decide⟩ ⟨15, by decide⟩ (by decide) (by decide) (by decide)).1.symm
  · exact (stage_down 0 (by decide) (fun i : Fin (2 ^ 4) => (decide (i.val &&& 2 ^ (1 + 1) = 0)) == true) x.get ⟨14, by decide⟩ ⟨15, by decide⟩ (by decide) (by decide) (by decide)).2.symm

theorem step22_eq (x : Slabs α) : (step22 max min x).get = Network.apply (stage 4 2 (fun i : Fin (2 ^ 4) => (decide (i.val &&& 2 ^ (2 + 1) = 0)) == true)) x.get := by
  funext i
  fin_cases i
  · exact (stage_up 2 (by decide) (fun i : Fin (2 ^ 4) => (decide (i.val &&& 2 ^ (2 + 1) = 0)) == true) x.get ⟨0, by decide⟩ ⟨4, by decide⟩ (by decide) (by decide) (by decide)).1.symm
  · exact (stage_up 2 (by decide) (fun i : Fin (2 ^ 4) => (decide (i.val &&& 2 ^ (2 + 1) = 0)) == true) x.get ⟨1, by decide⟩ ⟨5, by decide⟩ (by decide) (by decide) (by decide)).1.symm
  · exact (stage_up 2 (by decide) (fun i : Fin (2 ^ 4) => (decide (i.val &&& 2 ^ (2 + 1) = 0)) == true) x.get ⟨2, by decide⟩ ⟨6, by decide⟩ (by decide) (by decide) (by decide)).1.symm
  · exact (stage_up 2 (by decide) (fun i : Fin (2 ^ 4) => (decide (i.val &&& 2 ^ (2 + 1) = 0)) == true) x.get ⟨3, by decide⟩ ⟨7, by decide⟩ (by decide) (by decide) (by decide)).1.symm
  · exact (stage_up 2 (by decide) (fun i : Fin (2 ^ 4) => (decide (i.val &&& 2 ^ (2 + 1) = 0)) == true) x.get ⟨0, by decide⟩ ⟨4, by decide⟩ (by decide) (by decide) (by decide)).2.symm
  · exact (stage_up 2 (by decide) (fun i : Fin (2 ^ 4) => (decide (i.val &&& 2 ^ (2 + 1) = 0)) == true) x.get ⟨1, by decide⟩ ⟨5, by decide⟩ (by decide) (by decide) (by decide)).2.symm
  · exact (stage_up 2 (by decide) (fun i : Fin (2 ^ 4) => (decide (i.val &&& 2 ^ (2 + 1) = 0)) == true) x.get ⟨2, by decide⟩ ⟨6, by decide⟩ (by decide) (by decide) (by decide)).2.symm
  · exact (stage_up 2 (by decide) (fun i : Fin (2 ^ 4) => (decide (i.val &&& 2 ^ (2 + 1) = 0)) == true) x.get ⟨3, by decide⟩ ⟨7, by decide⟩ (by decide) (by decide) (by decide)).2.symm
  · exact (stage_down 2 (by decide) (fun i : Fin (2 ^ 4) => (decide (i.val &&& 2 ^ (2 + 1) = 0)) == true) x.get ⟨8, by decide⟩ ⟨12, by decide⟩ (by decide) (by decide) (by decide)).1.symm
  · exact (stage_down 2 (by decide) (fun i : Fin (2 ^ 4) => (decide (i.val &&& 2 ^ (2 + 1) = 0)) == true) x.get ⟨9, by decide⟩ ⟨13, by decide⟩ (by decide) (by decide) (by decide)).1.symm
  · exact (stage_down 2 (by decide) (fun i : Fin (2 ^ 4) => (decide (i.val &&& 2 ^ (2 + 1) = 0)) == true) x.get ⟨10, by decide⟩ ⟨14, by decide⟩ (by decide) (by decide) (by decide)).1.symm
  · exact (stage_down 2 (by decide) (fun i : Fin (2 ^ 4) => (decide (i.val &&& 2 ^ (2 + 1) = 0)) == true) x.get ⟨11, by decide⟩ ⟨15, by decide⟩ (by decide) (by decide) (by decide)).1.symm
  · exact (stage_down 2 (by decide) (fun i : Fin (2 ^ 4) => (decide (i.val &&& 2 ^ (2 + 1) = 0)) == true) x.get ⟨8, by decide⟩ ⟨12, by decide⟩ (by decide) (by decide) (by decide)).2.symm
  · exact (stage_down 2 (by decide) (fun i : Fin (2 ^ 4) => (decide (i.val &&& 2 ^ (2 + 1) = 0)) == true) x.get ⟨9, by decide⟩ ⟨13, by decide⟩ (by decide) (by decide) (by decide)).2.symm
  · exact (stage_down 2 (by decide) (fun i : Fin (2 ^ 4) => (decide (i.val &&& 2 ^ (2 + 1) = 0)) == true) x.get ⟨10, by decide⟩ ⟨14, by decide⟩ (by decide) (by decide) (by decide)).2.symm
  · exact (stage_down 2 (by decide) (fun i : Fin (2 ^ 4) => (decide (i.val &&& 2 ^ (2 + 1) = 0)) == true) x.get ⟨11, by decide⟩ ⟨15, by decide⟩ (by decide) (by decide) (by decide)).2.symm

theorem step21_eq (x : Slabs α) : (step21 max min x).get = Network.apply (stage 4 1 (fun i : Fin (2 ^ 4) => (decide (i.val &&& 2 ^ (2 + 1) = 0)) == true)) x.get := by
  funext i
  fin_cases i
  · exact (stage_up 1 (by decide) (fun i : Fin (2 ^ 4) => (decide (i.val &&& 2 ^ (2 + 1) = 0)) == true) x.get ⟨0, by decide⟩ ⟨2, by decide⟩ (by decide) (by decide) (by decide)).1.symm
  · exact (stage_up 1 (by decide) (fun i : Fin (2 ^ 4) => (decide (i.val &&& 2 ^ (2 + 1) = 0)) == true) x.get ⟨1, by decide⟩ ⟨3, by decide⟩ (by decide) (by decide) (by decide)).1.symm
  · exact (stage_up 1 (by decide) (fun i : Fin (2 ^ 4) => (decide (i.val &&& 2 ^ (2 + 1) = 0)) == true) x.get ⟨0, by decide⟩ ⟨2, by decide⟩ (by decide) (by decide) (by decide)).2.symm
  · exact (stage_up 1 (by decide) (fun i : Fin (2 ^ 4) => (decide (i.val &&& 2 ^ (2 + 1) = 0)) == true) x.get ⟨1, by decide⟩ ⟨3, by decide⟩ (by decide) (by decide) (by decide)).2.symm
  · exact (stage_up 1 (by decide) (fun i : Fin (2 ^ 4) => (decide (i.val &&& 2 ^ (2 + 1) = 0)) == true) x.get ⟨4, by decide⟩ ⟨6, by decide⟩ (by decide) (by decide) (by decide)).1.symm
  · exact (stage_up 1 (by decide) (fun i : Fin (2 ^ 4) => (decide (i.val &&& 2 ^ (2 + 1) = 0)) == true) x.get ⟨5, by decide⟩ ⟨7, by decide⟩ (by decide) (by decide) (by decide)).1.symm
  · exact (stage_up 1 (by decide) (fun i : Fin (2 ^ 4) => (decide (i.val &&& 2 ^ (2 + 1) = 0)) == true) x.get ⟨4, by decide⟩ ⟨6, by decide⟩ (by decide) (by decide) (by decide)).2.symm
  · exact (stage_up 1 (by decide) (fun i : Fin (2 ^ 4) => (decide (i.val &&& 2 ^ (2 + 1) = 0)) == true) x.get ⟨5, by decide⟩ ⟨7, by decide⟩ (by decide) (by decide) (by decide)).2.symm
  · exact (stage_down 1 (by decide) (fun i : Fin (2 ^ 4) => (decide (i.val &&& 2 ^ (2 + 1) = 0)) == true) x.get ⟨8, by decide⟩ ⟨10, by decide⟩ (by decide) (by decide) (by decide)).1.symm
  · exact (stage_down 1 (by decide) (fun i : Fin (2 ^ 4) => (decide (i.val &&& 2 ^ (2 + 1) = 0)) == true) x.get ⟨9, by decide⟩ ⟨11, by decide⟩ (by decide) (by decide) (by decide)).1.symm
  · exact (stage_down 1 (by decide) (fun i : Fin (2 ^ 4) => (decide (i.val &&& 2 ^ (2 + 1) = 0)) == true) x.get ⟨8, by decide⟩ ⟨10, by decide⟩ (by decide) (by decide) (by decide)).2.symm
  · exact (stage_down 1 (by decide) (fun i : Fin (2 ^ 4) => (decide (i.val &&& 2 ^ (2 + 1) = 0)) == true) x.get ⟨9, by decide⟩ ⟨11, by decide⟩ (by decide) (by decide) (by decide)).2.symm
  · exact (stage_down 1 (by decide) (fun i : Fin (2 ^ 4) => (decide (i.val &&& 2 ^ (2 + 1) = 0)) == true) x.get ⟨12, by decide⟩ ⟨14, by decide⟩ (by decide) (by decide) (by decide)).1.symm
  · exact (stage_down 1 (by decide) (fun i : Fin (2 ^ 4) => (decide (i.val &&& 2 ^ (2 + 1) = 0)) == true) x.get ⟨13, by decide⟩ ⟨15, by decide⟩ (by decide) (by decide) (by decide)).1.symm
  · exact (stage_down 1 (by decide) (fun i : Fin (2 ^ 4) => (decide (i.val &&& 2 ^ (2 + 1) = 0)) == true) x.get ⟨12, by decide⟩ ⟨14, by decide⟩ (by decide) (by decide) (by decide)).2.symm
  · exact (stage_down 1 (by decide) (fun i : Fin (2 ^ 4) => (decide (i.val &&& 2 ^ (2 + 1) = 0)) == true) x.get ⟨13, by decide⟩ ⟨15, by decide⟩ (by decide) (by decide) (by decide)).2.symm

theorem step20_eq (x : Slabs α) : (step20 max min x).get = Network.apply (stage 4 0 (fun i : Fin (2 ^ 4) => (decide (i.val &&& 2 ^ (2 + 1) = 0)) == true)) x.get := by
  funext i
  fin_cases i
  · exact (stage_up 0 (by decide) (fun i : Fin (2 ^ 4) => (decide (i.val &&& 2 ^ (2 + 1) = 0)) == true) x.get ⟨0, by decide⟩ ⟨1, by decide⟩ (by decide) (by decide) (by decide)).1.symm
  · exact (stage_up 0 (by decide) (fun i : Fin (2 ^ 4) => (decide (i.val &&& 2 ^ (2 + 1) = 0)) == true) x.get ⟨0, by decide⟩ ⟨1, by decide⟩ (by decide) (by decide) (by decide)).2.symm
  · exact (stage_up 0 (by decide) (fun i : Fin (2 ^ 4) => (decide (i.val &&& 2 ^ (2 + 1) = 0)) == true) x.get ⟨2, by decide⟩ ⟨3, by decide⟩ (by decide) (by decide) (by decide)).1.symm
  · exact (stage_up 0 (by decide) (fun i : Fin (2 ^ 4) => (decide (i.val &&& 2 ^ (2 + 1) = 0)) == true) x.get ⟨2, by decide⟩ ⟨3, by decide⟩ (by decide) (by decide) (by decide)).2.symm
  · exact (stage_up 0 (by decide) (fun i : Fin (2 ^ 4) => (decide (i.val &&& 2 ^ (2 + 1) = 0)) == true) x.get ⟨4, by decide⟩ ⟨5, by decide⟩ (by decide) (by decide) (by decide)).1.symm
  · exact (stage_up 0 (by decide) (fun i : Fin (2 ^ 4) => (decide (i.val &&& 2 ^ (2 + 1) = 0)) == true) x.get ⟨4, by decide⟩ ⟨5, by decide⟩ (by decide) (by decide) (by decide)).2.symm
  · exact (stage_up 0 (by decide) (fun i : Fin (2 ^ 4) => (decide (i.val &&& 2 ^ (2 + 1) = 0)) == true) x.get ⟨6, by decide⟩ ⟨7, by decide⟩ (by decide) (by decide) (by decide)).1.symm
  · exact (stage_up 0 (by decide) (fun i : Fin (2 ^ 4) => (decide (i.val &&& 2 ^ (2 + 1) = 0)) == true) x.get ⟨6, by decide⟩ ⟨7, by decide⟩ (by decide) (by decide) (by decide)).2.symm
  · exact (stage_down 0 (by decide) (fun i : Fin (2 ^ 4) => (decide (i.val &&& 2 ^ (2 + 1) = 0)) == true) x.get ⟨8, by decide⟩ ⟨9, by decide⟩ (by decide) (by decide) (by decide)).1.symm
  · exact (stage_down 0 (by decide) (fun i : Fin (2 ^ 4) => (decide (i.val &&& 2 ^ (2 + 1) = 0)) == true) x.get ⟨8, by decide⟩ ⟨9, by decide⟩ (by decide) (by decide) (by decide)).2.symm
  · exact (stage_down 0 (by decide) (fun i : Fin (2 ^ 4) => (decide (i.val &&& 2 ^ (2 + 1) = 0)) == true) x.get ⟨10, by decide⟩ ⟨11, by decide⟩ (by decide) (by decide) (by decide)).1.symm
  · exact (stage_down 0 (by decide) (fun i : Fin (2 ^ 4) => (decide (i.val &&& 2 ^ (2 + 1) = 0)) == true) x.get ⟨10, by decide⟩ ⟨11, by decide⟩ (by decide) (by decide) (by decide)).2.symm
  · exact (stage_down 0 (by decide) (fun i : Fin (2 ^ 4) => (decide (i.val &&& 2 ^ (2 + 1) = 0)) == true) x.get ⟨12, by decide⟩ ⟨13, by decide⟩ (by decide) (by decide) (by decide)).1.symm
  · exact (stage_down 0 (by decide) (fun i : Fin (2 ^ 4) => (decide (i.val &&& 2 ^ (2 + 1) = 0)) == true) x.get ⟨12, by decide⟩ ⟨13, by decide⟩ (by decide) (by decide) (by decide)).2.symm
  · exact (stage_down 0 (by decide) (fun i : Fin (2 ^ 4) => (decide (i.val &&& 2 ^ (2 + 1) = 0)) == true) x.get ⟨14, by decide⟩ ⟨15, by decide⟩ (by decide) (by decide) (by decide)).1.symm
  · exact (stage_down 0 (by decide) (fun i : Fin (2 ^ 4) => (decide (i.val &&& 2 ^ (2 + 1) = 0)) == true) x.get ⟨14, by decide⟩ ⟨15, by decide⟩ (by decide) (by decide) (by decide)).2.symm

theorem step33_eq (x : Slabs α) : (step33 max min x).get = Network.apply (stage 4 3 (fun i : Fin (2 ^ 4) => (decide (i.val &&& 2 ^ (3 + 1) = 0)) == true)) x.get := by
  funext i
  fin_cases i
  · exact (stage_up 3 (by decide) (fun i : Fin (2 ^ 4) => (decide (i.val &&& 2 ^ (3 + 1) = 0)) == true) x.get ⟨0, by decide⟩ ⟨8, by decide⟩ (by decide) (by decide) (by decide)).1.symm
  · exact (stage_up 3 (by decide) (fun i : Fin (2 ^ 4) => (decide (i.val &&& 2 ^ (3 + 1) = 0)) == true) x.get ⟨1, by decide⟩ ⟨9, by decide⟩ (by decide) (by decide) (by decide)).1.symm
  · exact (stage_up 3 (by decide) (fun i : Fin (2 ^ 4) => (decide (i.val &&& 2 ^ (3 + 1) = 0)) == true) x.get ⟨2, by decide⟩ ⟨10, by decide⟩ (by decide) (by decide) (by decide)).1.symm
  · exact (stage_up 3 (by decide) (fun i : Fin (2 ^ 4) => (decide (i.val &&& 2 ^ (3 + 1) = 0)) == true) x.get ⟨3, by decide⟩ ⟨11, by decide⟩ (by decide) (by decide) (by decide)).1.symm
  · exact (stage_up 3 (by decide) (fun i : Fin (2 ^ 4) => (decide (i.val &&& 2 ^ (3 + 1) = 0)) == true) x.get ⟨4, by decide⟩ ⟨12, by decide⟩ (by decide) (by decide) (by decide)).1.symm
  · exact (stage_up 3 (by decide) (fun i : Fin (2 ^ 4) => (decide (i.val &&& 2 ^ (3 + 1) = 0)) == true) x.get ⟨5, by decide⟩ ⟨13, by decide⟩ (by decide) (by decide) (by decide)).1.symm
  · exact (stage_up 3 (by decide) (fun i : Fin (2 ^ 4) => (decide (i.val &&& 2 ^ (3 + 1) = 0)) == true) x.get ⟨6, by decide⟩ ⟨14, by decide⟩ (by decide) (by decide) (by decide)).1.symm
  · exact (stage_up 3 (by decide) (fun i : Fin (2 ^ 4) => (decide (i.val &&& 2 ^ (3 + 1) = 0)) == true) x.get ⟨7, by decide⟩ ⟨15, by decide⟩ (by decide) (by decide) (by decide)).1.symm
  · exact (stage_up 3 (by decide) (fun i : Fin (2 ^ 4) => (decide (i.val &&& 2 ^ (3 + 1) = 0)) == true) x.get ⟨0, by decide⟩ ⟨8, by decide⟩ (by decide) (by decide) (by decide)).2.symm
  · exact (stage_up 3 (by decide) (fun i : Fin (2 ^ 4) => (decide (i.val &&& 2 ^ (3 + 1) = 0)) == true) x.get ⟨1, by decide⟩ ⟨9, by decide⟩ (by decide) (by decide) (by decide)).2.symm
  · exact (stage_up 3 (by decide) (fun i : Fin (2 ^ 4) => (decide (i.val &&& 2 ^ (3 + 1) = 0)) == true) x.get ⟨2, by decide⟩ ⟨10, by decide⟩ (by decide) (by decide) (by decide)).2.symm
  · exact (stage_up 3 (by decide) (fun i : Fin (2 ^ 4) => (decide (i.val &&& 2 ^ (3 + 1) = 0)) == true) x.get ⟨3, by decide⟩ ⟨11, by decide⟩ (by decide) (by decide) (by decide)).2.symm
  · exact (stage_up 3 (by decide) (fun i : Fin (2 ^ 4) => (decide (i.val &&& 2 ^ (3 + 1) = 0)) == true) x.get ⟨4, by decide⟩ ⟨12, by decide⟩ (by decide) (by decide) (by decide)).2.symm
  · exact (stage_up 3 (by decide) (fun i : Fin (2 ^ 4) => (decide (i.val &&& 2 ^ (3 + 1) = 0)) == true) x.get ⟨5, by decide⟩ ⟨13, by decide⟩ (by decide) (by decide) (by decide)).2.symm
  · exact (stage_up 3 (by decide) (fun i : Fin (2 ^ 4) => (decide (i.val &&& 2 ^ (3 + 1) = 0)) == true) x.get ⟨6, by decide⟩ ⟨14, by decide⟩ (by decide) (by decide) (by decide)).2.symm
  · exact (stage_up 3 (by decide) (fun i : Fin (2 ^ 4) => (decide (i.val &&& 2 ^ (3 + 1) = 0)) == true) x.get ⟨7, by decide⟩ ⟨15, by decide⟩ (by decide) (by decide) (by decide)).2.symm

theorem step32_eq (x : Slabs α) : (step32 max min x).get = Network.apply (stage 4 2 (fun i : Fin (2 ^ 4) => (decide (i.val &&& 2 ^ (3 + 1) = 0)) == true)) x.get := by
  funext i
  fin_cases i
  · exact (stage_up 2 (by decide) (fun i : Fin (2 ^ 4) => (decide (i.val &&& 2 ^ (3 + 1) = 0)) == true) x.get ⟨0, by decide⟩ ⟨4, by decide⟩ (by decide) (by decide) (by decide)).1.symm
  · exact (stage_up 2 (by decide) (fun i : Fin (2 ^ 4) => (decide (i.val &&& 2 ^ (3 + 1) = 0)) == true) x.get ⟨1, by decide⟩ ⟨5, by decide⟩ (by decide) (by decide) (by decide)).1.symm
  · exact (stage_up 2 (by decide) (fun i : Fin (2 ^ 4) => (decide (i.val &&& 2 ^ (3 + 1) = 0)) == true) x.get ⟨2, by decide⟩ ⟨6, by decide⟩ (by decide) (by decide) (by decide)).1.symm
  · exact (stage_up 2 (by decide) (fun i : Fin (2 ^ 4) => (decide (i.val &&& 2 ^ (3 + 1) = 0)) == true) x.get ⟨3, by decide⟩ ⟨7, by decide⟩ (by decide) (by decide) (by decide)).1.symm
  · exact (stage_up 2 (by decide) (fun i : Fin (2 ^ 4) => (decide (i.val &&& 2 ^ (3 + 1) = 0)) == true) x.get ⟨0, by decide⟩ ⟨4, by decide⟩ (by decide) (by decide) (by decide)).2.symm
  · exact (stage_up 2 (by decide) (fun i : Fin (2 ^ 4) => (decide (i.val &&& 2 ^ (3 + 1) = 0)) == true) x.get ⟨1, by decide⟩ ⟨5, by decide⟩ (by decide) (by decide) (by decide)).2.symm
  · exact (stage_up 2 (by decide) (fun i : Fin (2 ^ 4) => (decide (i.val &&& 2 ^ (3 + 1) = 0)) == true) x.get ⟨2, by decide⟩ ⟨6, by decide⟩ (by decide) (by decide) (by decide)).2.symm
  · exact (stage_up 2 (by decide) (fun i : Fin (2 ^ 4) => (decide (i.val &&& 2 ^ (3 + 1) = 0)) == true) x.get ⟨3, by decide⟩ ⟨7, by decide⟩ (by decide) (by decide) (by decide)).2.symm
  · exact (stage_up 2 (by decide) (fun i : Fin (2 ^ 4) => (decide (i.val &&& 2 ^ (3 + 1) = 0)) == true) x.get ⟨8, by decide⟩ ⟨12, by decide⟩ (by decide) (by decide) (by decide)).1.symm
  · exact (stage_up 2 (by decide) (fun i : Fin (2 ^ 4) => (decide (i.val &&& 2 ^ (3 + 1) = 0)) == true) x.get ⟨9, by decide⟩ ⟨13, by decide⟩ (by decide) (by decide) (by decide)).1.symm
  · exact (stage_up 2 (by decide) (fun i : Fin (2 ^ 4) => (decide (i.val &&& 2 ^ (3 + 1) = 0)) == true) x.get ⟨10, by decide⟩ ⟨14, by decide⟩ (by decide) (by decide) (by decide)).1.symm
  · exact (stage_up 2 (by decide) (fun i : Fin (2 ^ 4) => (decide (i.val &&& 2 ^ (3 + 1) = 0)) == true) x.get ⟨11, by decide⟩ ⟨15, by decide⟩ (by decide) (by decide) (by decide)).1.symm
  · exact (stage_up 2 (by decide) (fun i : Fin (2 ^ 4) => (decide (i.val &&& 2 ^ (3 + 1) = 0)) == true) x.get ⟨8, by decide⟩ ⟨12, by decide⟩ (by decide) (by decide) (by decide)).2.symm
  · exact (stage_up 2 (by decide) (fun i : Fin (2 ^ 4) => (decide (i.val &&& 2 ^ (3 + 1) = 0)) == true) x.get ⟨9, by decide⟩ ⟨13, by decide⟩ (by decide) (by decide) (by decide)).2.symm
  · exact (stage_up 2 (by decide) (fun i : Fin (2 ^ 4) => (decide (i.val &&& 2 ^ (3 + 1) = 0)) == true) x.get ⟨10, by decide⟩ ⟨14, by decide⟩ (by decide) (by decide) (by decide)).2.symm
  · exact (stage_up 2 (by decide) (fun i : Fin (2 ^ 4) => (decide (i.val &&& 2 ^ (3 + 1) = 0)) == true) x.get ⟨11, by decide⟩ ⟨15, by decide⟩ (by decide) (by decide) (by decide)).2.symm

theorem step31_eq (x : Slabs α) : (step31 max min x).get = Network.apply (stage 4 1 (fun i : Fin (2 ^ 4) => (decide (i.val &&& 2 ^ (3 + 1) = 0)) == true)) x.get := by
  funext i
  fin_cases i
  · exact (stage_up 1 (by decide) (fun i : Fin (2 ^ 4) => (decide (i.val &&& 2 ^ (3 + 1) = 0)) == true) x.get ⟨0, by decide⟩ ⟨2, by decide⟩ (by decide) (by decide) (by decide)).1.symm
  · exact (stage_up 1 (by decide) (fun i : Fin (2 ^ 4) => (decide (i.val &&& 2 ^ (3 + 1) = 0)) == true) x.get ⟨1, by decide⟩ ⟨3, by decide⟩ (by decide) (by decide) (by decide)).1.symm
  · exact (stage_up 1 (by decide) (fun i : Fin (2 ^ 4) => (decide (i.val &&& 2 ^ (3 + 1) = 0)) == true) x.get ⟨0, by decide⟩ ⟨2, by decide⟩ (by decide) (by decide) (by decide)).2.symm
  · exact (stage_up 1 (by decide) (fun i : Fin (2 ^ 4) => (decide (i.val &&& 2 ^ (3 + 1) = 0)) == true) x.get ⟨1, by decide⟩ ⟨3, by decide⟩ (by decide) (by decide) (by decide)).2.symm
  · exact (stage_up 1 (by decide) (fun i : Fin (2 ^ 4) => (decide (i.val &&& 2 ^ (3 + 1) = 0)) == true) x.get ⟨4, by decide⟩ ⟨6, by decide⟩ (by decide) (by decide) (by decide)).1.symm
  · exact (stage_up 1 (by decide) (fun i : Fin (2 ^ 4) => (decide (i.val &&& 2 ^ (3 + 1) = 0)) == true) x.get ⟨5, by decide⟩ ⟨7, by decide⟩ (by decide) (by decide) (by decide)).1.symm
  · exact (stage_up 1 (by decide) (fun i : Fin (2 ^ 4) => (decide (i.val &&& 2 ^ (3 + 1) = 0)) == true) x.get ⟨4, by decide⟩ ⟨6, by decide⟩ (by decide) (by decide) (by decide)).2.symm
  · exact (stage_up 1 (by decide) (fun i : Fin (2 ^ 4) => (decide (i.val &&& 2 ^ (3 + 1) = 0)) == true) x.get ⟨5, by decide⟩ ⟨7, by decide⟩ (by decide) (by decide) (by decide)).2.symm
  · exact (stage_up 1 (by decide) (fun i : Fin (2 ^ 4) => (decide (i.val &&& 2 ^ (3 + 1) = 0)) == true) x.get ⟨8, by decide⟩ ⟨10, by decide⟩ (by decide) (by decide) (by decide)).1.symm
  · exact (stage_up 1 (by decide) (fun i : Fin (2 ^ 4) => (decide (i.val &&& 2 ^ (3 + 1) = 0)) == true) x.get ⟨9, by decide⟩ ⟨11, by decide⟩ (by decide) (by decide) (by decide)).1.symm
  · exact (stage_up 1 (by decide) (fun i : Fin (2 ^ 4) => (decide (i.val &&& 2 ^ (3 + 1) = 0)) == true) x.get ⟨8, by decide⟩ ⟨10, by decide⟩ (by decide) (by decide) (by decide)).2.symm
  · exact (stage_up 1 (by decide) (fun i : Fin (2 ^ 4) => (decide (i.val &&& 2 ^ (3 + 1) = 0)) == true) x.get ⟨9, by decide⟩ ⟨11, by decide⟩ (by decide) (by decide) (by decide)).2.symm
  · exact (stage_up 1 (by decide) (fun i : Fin (2 ^ 4) => (decide (i.val &&& 2 ^ (3 + 1) = 0)) == true) x.get ⟨12, by decide⟩ ⟨14, by decide⟩ (by decide) (by decide) (by decide)).1.symm
  · exact (stage_up 1 (by decide) (fun i : Fin (2 ^ 4) => (decide (i.val &&& 2 ^ (3 + 1) = 0)) == true) x.get ⟨13, by decide⟩ ⟨15, by decide⟩ (by decide) (by decide) (by decide)).1.symm
  · exact (stage_up 1 (by decide) (fun i : Fin (2 ^ 4) => (decide (i.val &&& 2 ^ (3 + 1) = 0)) == true) x.get ⟨12, by decide⟩ ⟨14, by decide⟩ (by decide) (by decide) (by decide)).2.symm
  · exact (stage_up 1 (by decide) (fun i : Fin (2 ^ 4) => (decide (i.val &&& 2 ^ (3 + 1) = 0)) == true) x.get ⟨13, by decide⟩ ⟨15, by decide⟩ (by decide) (by decide) (by decide)).2.symm

theorem step30_eq (x : Slabs α) : (step30 max min x).get = Network.apply (stage 4 0 (fun i : Fin (2 ^ 4) => (decide (i.val &&& 2 ^ (3 + 1) = 0)) == true)) x.get := by
  funext i
  fin_cases i
  · exact (stage_up 0 (by decide) (fun i : Fin (2 ^ 4) => (decide (i.val &&& 2 ^ (3 + 1) = 0)) == true) x.get ⟨0, by decide⟩ ⟨1, by decide⟩ (by decide) (by decide) (by decide)).1.symm
  · exact (stage_up 0 (by decide) (fun i : Fin (2 ^ 4) => (decide (i.val &&& 2 ^ (3 + 1) = 0)) == true) x.get ⟨0, by decide⟩ ⟨1, by decide⟩ (by decide) (by decide) (by decide)).2.symm
  · exact (stage_up 0 (by decide) (fun i : Fin (2 ^ 4) => (decide (i.val &&& 2 ^ (3 + 1) = 0)) == true) x.get ⟨2, by decide⟩ ⟨3, by decide⟩ (by decide) (by decide) (by decide)).1.symm
  · exact (stage_up 0 (by decide) (fun i : Fin (2 ^ 4) => (decide (i.val &&& 2 ^ (3 + 1) = 0)) == true) x.get ⟨2, by decide⟩ ⟨3, by decide⟩ (by decide) (by decide) (by decide)).2.symm
  · exact (stage_up 0 (by decide) (fun i : Fin (2 ^ 4) => (decide (i.val &&& 2 ^ (3 + 1) = 0)) == true) x.get ⟨4, by decide⟩ ⟨5, by decide⟩ (by decide) (by decide) (by decide)).1.symm
  · exact (stage_up 0 (by decide) (fun i : Fin (2 ^ 4) => (decide (i.val &&& 2 ^ (3 + 1) = 0)) == true) x.get ⟨4, by decide⟩ ⟨5, by decide⟩ (by decide) (by decide) (by decide)).2.symm
  · exact (stage_up 0 (by decide) (fun i : Fin (2 ^ 4) => (decide (i.val &&& 2 ^ (3 + 1) = 0)) == true) x.get ⟨6, by decide⟩ ⟨7, by decide⟩ (by decide) (by decide) (by decide)).1.symm
  · exact (stage_up 0 (by decide) (fun i : Fin (2 ^ 4) => (decide (i.val &&& 2 ^ (3 + 1) = 0)) == true) x.get ⟨6, by decide⟩ ⟨7, by decide⟩ (by decide) (by decide) (by decide)).2.symm
  · exact (stage_up 0 (by decide) (fun i : Fin (2 ^ 4) => (decide (i.val &&& 2 ^ (3 + 1) = 0)) == true) x.get ⟨8, by decide⟩ ⟨9, by decide⟩ (by decide) (by decide) (by decide)).1.symm
  · exact (stage_up 0 (by decide) (fun i : Fin (2 ^ 4) => (decide (i.val &&& 2 ^ (3 + 1) = 0)) == true) x.get ⟨8, by decide⟩ ⟨9, by decide⟩ (by decide) (by decide) (by decide)).2.symm
  · exact (stage_up 0 (by decide) (fun i : Fin (2 ^ 4) => (decide (i.val &&& 2 ^ (3 + 1) = 0)) == true) x.get ⟨10, by decide⟩ ⟨11, by decide⟩ (by decide) (by decide) (by decide)).1.symm
  · exact (stage_up 0 (by decide) (fun i : Fin (2 ^ 4) => (decide (i.val &&& 2 ^ (3 + 1) = 0)) == true) x.get ⟨10, by decide⟩ ⟨11, by decide⟩ (by decide) (by decide) (by decide)).2.symm
  · exact (stage_up 0 (by decide) (fun i : Fin (2 ^ 4) => (decide (i.val &&& 2 ^ (3 + 1) = 0)) == true) x.get ⟨12, by decide⟩ ⟨13, by decide⟩ (by decide) (by decide) (by decide)).1.symm
  · exact (stage_up 0 (by decide) (fun i : Fin (2 ^ 4) => (decide (i.val &&& 2 ^ (3 + 1) = 0)) == true) x.get ⟨12, by decide⟩ ⟨13, by decide⟩ (by decide) (by decide) (by decide)).2.symm
  · exact (stage_up 0 (by decide) (fun i : Fin (2 ^ 4) => (decide (i.val &&& 2 ^ (3 + 1) = 0)) == true) x.get ⟨14, by decide⟩ ⟨15, by decide⟩ (by decide) (by decide) (by decide)).1.symm
  · exact (stage_up 0 (by decide) (fun i : Fin (2 ^ 4) => (decide (i.val &&& 2 ^ (3 + 1) = 0)) == true) x.get ⟨14, by decide⟩ ⟨15, by decide⟩ (by decide) (by decide) (by decide)).2.symm

/-- `x` holds the sixteen greatest of `l`, the greatest first. -/
def Top (x : Slabs α) (l : List α) : Prop := List.ofFn x.get = topList 16 l

theorem fall_eq (x : Slabs α) : (fall max min x).get = Network.apply (mergeDescNet 4) x.get := by
  unfold fall
  rw [step30_eq, step31_eq, step32_eq, step33_eq]
  rfl

theorem sort_eq (x : Slabs α) : (sort max min x).get = Network.apply (sortNet 4 true) x.get := by
  unfold sort fall runs
  rw [step30_eq, step31_eq, step32_eq, step33_eq, step20_eq, step21_eq, step22_eq, step10_eq, step11_eq, step00_eq]
  simp only [← Network.apply_append]
  rfl

theorem Top.antitone {x : Slabs α} {l : List α} (h : Top x l) : Antitone x.get := by
  have hp := pairwise_topList 16 l
  rw [← h, List.pairwise_ofFn] at hp
  intro i j hij
  rcases eq_or_lt_of_le hij with rfl | hlt
  · exact le_refl _
  · exact hp hlt

theorem Top.perm {x : Slabs α} {l l' : List α} (h : Top x l) (hp : l.Perm l') : Top x l' := by
  unfold Top at h ⊢
  rw [h, topList_perm hp]

/-- The sort leaves the slabs in order. -/
theorem sort_top (x : Slabs α) : Top (sort max min x) (List.ofFn x.get) := by
  have ha : Antitone (Network.apply (sortNet 4 true) x.get) := sortNet_apply_antitone 4 x.get
  obtain ⟨σ, hσ⟩ := Network.exists_perm (sortNet 4 true) x.get
  unfold Top
  rw [sort_eq]
  have hp : (List.ofFn (Network.apply (sortNet 4 true) x.get)).Pairwise (· ≥ ·) := by
    rw [List.pairwise_ofFn]
    exact fun i j hij => ha (le_of_lt hij)
  have hq : (List.ofFn (Network.apply (sortNet 4 true) x.get)).Perm (List.ofFn x.get) := by
    rw [hσ]
    exact Equiv.Perm.ofFn_comp_perm σ _
  rw [← topList_perm hq, topList_eq_self hp (by simp)]

/-- The merge keeps the sixteen greatest of both lists. -/
theorem merge_top {x y : Slabs α} {l m : List α} (hx : Top x l) (hy : Top y m) : Top (merge max min x y) (l ++ m) := by
  have hc : Monotone (fun j : Fin (2 ^ 4) => y.get (Fin.rev j)) := fun i j hij => hy.antitone (Fin.rev_le_rev.mpr hij)
  have h := (foldStep 4 x.get (fun j => y.get (Fin.rev j)) hx.antitone hc).2
  have hm : (mirror max x y).get = fun j : Fin (2 ^ 4) => max (x.get j) (y.get (Fin.rev j)) := by
    funext j
    fin_cases j <;> rfl
  unfold Top merge
  rw [fall_eq, hm, h]
  have hr : (List.ofFn fun j : Fin (2 ^ 4) => y.get (Fin.rev j)).Perm (List.ofFn y.get) := by
    exact Equiv.Perm.ofFn_comp_perm (Fin.revPerm) y.get
  show topList 16 _ = _
  rw [topList_perm (hr.append_left _), hx, hy, topList_append_topList_topList]

end order

end Cert.RouteNet

end
-- ==== Proof.RoutePay.lean ====
/- The routing kernel's loop trip, in terms of the sorted slabs. -/
module

public import proofs.«01_k».proof.Proof.Gen.RouteIdeal.Frame
public import proofs.«01_k».proof.Proof.RouteNet
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteIdeal.Value

open Cert.RouteIdeal Cert.RouteIdeal.Gen Cert.RouteNet

/-- Eight rows of scores. -/
abbrev T : Type := FVec Ideal S8x256 .f32

/-- All the rows of scores. -/
abbrev V : Type := FVec Ideal S128x256 .f32

/-- The sixteen slabs of eight rows. -/
def slabs (s : V) : Slabs T :=
  ⟨extractStridedSlice S8x256 ![0, 0] s slices_S128x256_o0_0_S8x256,
    extractStridedSlice S8x256 ![8, 0] s slices_S128x256_o8_0_S8x256,
    extractStridedSlice S8x256 ![16, 0] s slices_S128x256_o16_0_S8x256,
    extractStridedSlice S8x256 ![24, 0] s slices_S128x256_o24_0_S8x256,
    extractStridedSlice S8x256 ![32, 0] s slices_S128x256_o32_0_S8x256,
    extractStridedSlice S8x256 ![40, 0] s slices_S128x256_o40_0_S8x256,
    extractStridedSlice S8x256 ![48, 0] s slices_S128x256_o48_0_S8x256,
    extractStridedSlice S8x256 ![56, 0] s slices_S128x256_o56_0_S8x256,
    extractStridedSlice S8x256 ![64, 0] s slices_S128x256_o64_0_S8x256,
    extractStridedSlice S8x256 ![72, 0] s slices_S128x256_o72_0_S8x256,
    extractStridedSlice S8x256 ![80, 0] s slices_S128x256_o80_0_S8x256,
    extractStridedSlice S8x256 ![88, 0] s slices_S128x256_o88_0_S8x256,
    extractStridedSlice S8x256 ![96, 0] s slices_S128x256_o96_0_S8x256,
    extractStridedSlice S8x256 ![104, 0] s slices_S128x256_o104_0_S8x256,
    extractStridedSlice S8x256 ![112, 0] s slices_S128x256_o112_0_S8x256,
    extractStridedSlice S8x256 ![120, 0] s slices_S128x256_o120_0_S8x256⟩

/-- The slabs with the rows moved round. -/
def rolled (n : BitVec 32) (x : Slabs T) : Slabs T := x.map fun v => dynamicRotate 0 n none v rotates_S8x256_d0

/-- One fold over the rows. -/
def fold (n : BitVec 32) (x : Slabs T) : Slabs T := merge maximumf minimumf x (rolled n x)

/-- The sixteen greatest rows, in every row. -/
def top16 (s : V) : Slabs T := fold 1#32 (fold 2#32 (fold 4#32 (sort maximumf minimumf (slabs s))))

/-- Nothing. -/
def none8 : T := broadcast S8x256 (Scalar.ofBits .f32 0xFF800000#32)

/-- The sums of the first with every one. -/
def first (a b : Slabs T) : Slabs T := ⟨addf a.s0 b.s0, addf a.s0 b.s1, addf a.s0 b.s2, addf a.s0 b.s3, addf a.s0 b.s4, addf a.s0 b.s5, addf a.s0 b.s6, addf a.s0 b.s7, addf a.s0 b.s8, addf a.s0 b.s9, addf a.s0 b.s10, addf a.s0 b.s11, addf a.s0 b.s12, addf a.s0 b.s13, addf a.s0 b.s14, addf a.s0 b.s15⟩

/-- Sums of the others. -/
def restA (a b : Slabs T) : Slabs T := ⟨addf a.s1 b.s0, addf a.s1 b.s1, addf a.s1 b.s2, addf a.s1 b.s3, addf a.s1 b.s4, addf a.s1 b.s5, addf a.s1 b.s6, addf a.s1 b.s7, addf a.s2 b.s0, addf a.s2 b.s1, addf a.s2 b.s2, addf a.s2 b.s3, addf a.s2 b.s4, addf a.s3 b.s0, addf a.s3 b.s1, addf a.s3 b.s2⟩

/-- Sums of the others. -/
def restB (a b : Slabs T) : Slabs T := ⟨addf a.s3 b.s3, addf a.s4 b.s0, addf a.s4 b.s1, addf a.s4 b.s2, addf a.s5 b.s0, addf a.s5 b.s1, addf a.s6 b.s0, addf a.s6 b.s1, addf a.s7 b.s0, addf a.s7 b.s1, addf a.s8 b.s0, addf a.s9 b.s0, addf a.s10 b.s0, addf a.s11 b.s0, addf a.s12 b.s0, addf a.s13 b.s0⟩

/-- Sums of the others. -/
def restC (a b : Slabs T) : Slabs T := ⟨addf a.s14 b.s0, addf a.s15 b.s0, none8, none8, none8, none8, none8, none8, none8, none8, none8, none8, none8, none8, none8, none8⟩

/-- The sixteen greatest sums. -/
def best (a b : Slabs T) : Slabs T :=
  merge maximumf minimumf (merge maximumf minimumf (first a b) (sort maximumf minimumf (restA a b)))
    (merge maximumf minimumf (sort maximumf minimumf (restB a b)) (sort maximumf minimumf (restC a b)))

/-- The sum of the exponentials. -/
def total (x : Slabs T) : T :=
  addf (addf (addf (addf (addf (addf (addf (addf (addf (addf (addf (addf (addf (addf (addf (exp (subf x.s0 x.s0)) (exp (subf x.s1 x.s0))) (exp (subf x.s2 x.s0))) (exp (subf x.s3 x.s0))) (exp (subf x.s4 x.s0))) (exp (subf x.s5 x.s0))) (exp (subf x.s6 x.s0))) (exp (subf x.s7 x.s0))) (exp (subf x.s8 x.s0))) (exp (subf x.s9 x.s0))) (exp (subf x.s10 x.s0))) (exp (subf x.s11 x.s0))) (exp (subf x.s12 x.s0))) (exp (subf x.s13 x.s0))) (exp (subf x.s14 x.s0))) (exp (subf x.s15 x.s0))

/-- The first row, in every row. -/
def rep (x : T) : V := broadcastTo S128x256 (shapeCast S1x256 (extractStridedSlice S1x256 ![0, 0] x slices_S8x256_o0_0_S1x256) shapeCasts_S1x256_S1x256) broadcasts_S1x256_S128x256

/-- A constant. -/
def cst (w : BitVec 32) : V := broadcast S128x256 (Scalar.ofBits .f32 w)

/-- How many places a falling test passes. -/
def count (p : V → IVec S128x256 1) (t : Slabs V) : V :=
  let t8 := p t.s7
  let t4 := p (select t8 t.s11 t.s3)
  let t2 := p (select t8 (select t4 t.s13 t.s9) (select t4 t.s5 t.s1))
  let t1 := p (select t8 (select t4 (select t2 t.s14 t.s12) (select t2 t.s10 t.s8)) (select t4 (select t2 t.s6 t.s4) (select t2 t.s2 t.s0)))
  select (p t.s15) (cst 0x41800000#32)
    (addf (addf (select t8 (cst 0x41000000#32) (cst 0x00000000#32)) (select t4 (cst 0x40800000#32) (cst 0x00000000#32)))
      (addf (select t2 (cst 0x40000000#32) (cst 0x00000000#32)) (select t1 (cst 0x3F800000#32) (cst 0x00000000#32))))

/-- The counts of the sums at or above the threshold. -/
def N1 (s1 s2 : V) : V := count (fun b => cmpf .oge (addf s1 b) (rep (best (top16 s1) (top16 s2)).s15)) ((top16 s2).map rep)

/-- The counts of the greater ones. -/
def R2 (s2 : V) : V := count (fun b => cmpf .olt s2 b) ((top16 s2).map rep)

/-- The first weights. -/
def C1 (s1 s2 : V) : V :=
  mulf (exp (subf s1 (rep (top16 s1).s0))) (rep (divf (broadcast S8x256 (Scalar.ofBits .f32 0x3F800000#32)) (total (best (top16 s1) (top16 s2)))))

/-- The second weights. -/
def E2 (s2 : V) : V := exp (subf s2 (rep (top16 s2).s0))

/-- Two tiles, the later first. -/
def tiles (k : Fin k0_t1_loop.trips) (ety : EltTy) (a b : Vec Ideal S1x1x128x128 ety) : List (View.Piece (Elt Ideal) S1x8x128x128 ety) :=
  [⟨Rect.unit (s := S1x8x128x128) (k0_off2 k 1#32) S1x1x128x128.size (k0_off2_inb k 1), a⟩,
   ⟨Rect.unit (s := S1x8x128x128) (k0_off2 k 0#32) S1x1x128x128.size (k0_off2_inb k 0), b⟩]

theorem trip_e2 (𝒱 : Variants) (c : Dev nD) (bd : Option 𝒱.V) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (X4 : BufTy.Contents (Elt Ideal) arg4.view.ty) (X9 : BufTy.Contents (Elt Ideal) arg9.view.ty) (k : Fin k0_t1_loop.trips) :
    (trip_k0_t1 (F := Ideal) 𝒱 c bd i arg2 harg2 arg3 harg3 arg4 harg4 arg5 harg5 arg6 harg6 arg7 harg7 arg8 harg8 arg9 harg9 X4 X9 k).2.2.2.1 = tiles k .bf16 (k0_pay1659 (F := Ideal) (truncf .bf16 (E2 (k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4))) bitsLt_bf16_f32)) (k0_pay1657 (F := Ideal) (truncf .bf16 (E2 (k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4))) bitsLt_bf16_f32)) := by
  sl_kernel_rfl

theorem trip_r2 (𝒱 : Variants) (c : Dev nD) (bd : Option 𝒱.V) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (X4 : BufTy.Contents (Elt Ideal) arg4.view.ty) (X9 : BufTy.Contents (Elt Ideal) arg9.view.ty) (k : Fin k0_t1_loop.trips) :
    (trip_k0_t1 (F := Ideal) 𝒱 c bd i arg2 harg2 arg3 harg3 arg4 harg4 arg5 harg5 arg6 harg6 arg7 harg7 arg8 harg8 arg9 harg9 X4 X9 k).2.2.1 = tiles k .bf16 (k0_pay1659 (F := Ideal) (truncf .bf16 (R2 (k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4))) bitsLt_bf16_f32)) (k0_pay1657 (F := Ideal) (truncf .bf16 (R2 (k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4))) bitsLt_bf16_f32)) := by
  sl_kernel_rfl

theorem trip_n1 (𝒱 : Variants) (c : Dev nD) (bd : Option 𝒱.V) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (X4 : BufTy.Contents (Elt Ideal) arg4.view.ty) (X9 : BufTy.Contents (Elt Ideal) arg9.view.ty) (k : Fin k0_t1_loop.trips) :
    (trip_k0_t1 (F := Ideal) 𝒱 c bd i arg2 harg2 arg3 harg3 arg4 harg4 arg5 harg5 arg6 harg6 arg7 harg7 arg8 harg8 arg9 harg9 X4 X9 k).1 = tiles k .f32 (k0_pay1658 (F := Ideal) (N1 (k0_pay3 (F := Ideal) (arg9.view.readAt (Elt Ideal) (Rect.unit (s := S1024x256) (k0_off1 k) S256x256.size (k0_off1_inb k)).toLoadRect X9) (arg4.view.readAt (Elt Ideal) (Rect.unit (s := S2x128x128) ![0, 0, 0] S1x128x128.size inb_S2x128x128_S1x128x128_0_0_0).toLoadRect X4)) (k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4)))) (k0_pay1653 (F := Ideal) (N1 (k0_pay3 (F := Ideal) (arg9.view.readAt (Elt Ideal) (Rect.unit (s := S1024x256) (k0_off1 k) S256x256.size (k0_off1_inb k)).toLoadRect X9) (arg4.view.readAt (Elt Ideal) (Rect.unit (s := S2x128x128) ![0, 0, 0] S1x128x128.size inb_S2x128x128_S1x128x128_0_0_0).toLoadRect X4)) (k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4)))) := by
  sl_kernel_rfl

theorem trip_c1 (𝒱 : Variants) (c : Dev nD) (bd : Option 𝒱.V) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (X4 : BufTy.Contents (Elt Ideal) arg4.view.ty) (X9 : BufTy.Contents (Elt Ideal) arg9.view.ty) (k : Fin k0_t1_loop.trips) :
    (trip_k0_t1 (F := Ideal) 𝒱 c bd i arg2 harg2 arg3 harg3 arg4 harg4 arg5 harg5 arg6 harg6 arg7 harg7 arg8 harg8 arg9 harg9 X4 X9 k).2.1 = tiles k .f32 (k0_pay1660 (F := Ideal) (C1 (k0_pay3 (F := Ideal) (arg9.view.readAt (Elt Ideal) (Rect.unit (s := S1024x256) (k0_off1 k) S256x256.size (k0_off1_inb k)).toLoadRect X9) (arg4.view.readAt (Elt Ideal) (Rect.unit (s := S2x128x128) ![0, 0, 0] S1x128x128.size inb_S2x128x128_S1x128x128_0_0_0).toLoadRect X4)) (k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4)))) (k0_pay1656 (F := Ideal) (C1 (k0_pay3 (F := Ideal) (arg9.view.readAt (Elt Ideal) (Rect.unit (s := S1024x256) (k0_off1 k) S256x256.size (k0_off1_inb k)).toLoadRect X9) (arg4.view.readAt (Elt Ideal) (Rect.unit (s := S2x128x128) ![0, 0, 0] S1x128x128.size inb_S2x128x128_S1x128x128_0_0_0).toLoadRect X4)) (k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4)))) := by
  sl_kernel_rfl

end Cert.RouteIdeal.Value

end
-- ==== Proof.RouteMath.lean ====
/- What the routing computes for one token and one head: the greatest scores, the greatest sums, and the counts. -/
module

public import proofs.«01_k».proof.Proof.RouteNet
public import Idealize.ShloMosaic.Lib.SortFacts
public import Idealize.ShloMosaic.Lib.SortNet.Positions
public import Idealize.ShloMosaic.Lib.IdealHost
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteNet

open Idealize.ShloMosaic.SortNet

/-- Entry `i` of the sixteen greatest. -/
def kth (l : List EReal) (i : Fin 16) : EReal := (topList 16 l)[i.val]?.getD 0

theorem Top.kth {x : Slabs EReal} {l : List EReal} (h : Top x l) (i : Fin 16) : x.get i = kth l i := by
  unfold RouteNet.kth
  rw [← h, List.getElem?_ofFn, dif_pos i.isLt]
  rfl

theorem kth_antitone (l : List EReal) (hl : 16 ≤ l.length) : Antitone (kth l) := by
  intro i j hij
  have hp := pairwise_topList 16 l
  have hn : (topList 16 l).length = 16 := by rw [length_topList]; omega
  unfold kth
  rw [List.getElem?_eq_getElem (i := j.val) (by rw [hn]; exact j.isLt), List.getElem?_eq_getElem (i := i.val) (by rw [hn]; exact i.isLt)]
  rcases eq_or_lt_of_le hij with rfl | h
  · exact le_rfl
  · exact List.pairwise_iff_getElem.mp hp i.val j.val _ _ h

/-- The sixteen greatest scores. -/
def tops (s : Fin 128 → EReal) : Fin 16 → EReal := kth (List.ofFn s)

theorem tops_antitone (s : Fin 128 → EReal) : Antitone (tops s) := kth_antitone _ (by rw [List.length_ofFn]; omega)

/-- The sums of two lists of sixteen, row by row. -/
def sums (a b : Fin 16 → EReal) (c : Fin 256) : EReal :=
  a ⟨c.val / 16, by omega⟩ + b ⟨c.val % 16, by omega⟩

/-- The sixteen greatest sums. -/
def bests (a b : Fin 16 → EReal) : Fin 16 → EReal := kth (List.ofFn (sums a b))

/-- A stable sort by "greater first", read at one of its first sixteen places. -/
theorem sorted_kth {n : ℕ} (x : Fin n → EReal) (i : Fin n) (j : Fin 16) (hij : i.val = j.val) :
    x (sortedFrom (fun k k' => FloatOps.cmpfTotal (F := Ideal) (φ := .f32) .gt (x k) (x k') == 1#1) i) = kth (List.ofFn x) j := by
  have hB : (fun k k' : Fin n => FloatOps.cmpfTotal (F := Ideal) (φ := .f32) .gt (x k) (x k') == 1#1) = greaterFirst x := by
    funext k k'
    rw [Ideal.cmpfTotal_def]
    show (BitVec.ofBool (decide (x k' < x k)) == 1#1) = decide (x k' < x k)
    cases decide (x k' < x k) <;> rfl
  rw [hB]
  have hs : ((stableSort (greaterFirst x) (List.finRange n)).map x) = (List.ofFn x).insertionSort (· ≥ ·) := by
    refine eq_of_perm_of_descending ?_ ?_ (List.pairwise_insertionSort (· ≥ ·) _)
    · have h1 : ((stableSort (greaterFirst x) (List.finRange n)).map x).Perm ((List.finRange n).map x) :=
        (perm_stableSort _ _).map x
      rw [← List.ofFn_eq_map] at h1
      exact h1.trans (List.perm_insertionSort _ _).symm
    · rw [List.pairwise_map]
      refine (pairwise_stableSort (greaterFirst x) (greaterFirst x) ?_ (fun _ _ h => h) ?_ _).imp fun {a b} hab => ?_
      · intro a b h
        simp only [greaterFirst, decide_eq_true_eq, decide_eq_false_iff_not, not_lt] at h ⊢
        exact h.le
      · intro a b c h1 h2
        simp only [greaterFirst, decide_eq_false_iff_not, not_lt] at h1 h2 ⊢
        exact h1.trans h2
      · simp only [greaterFirst, decide_eq_false_iff_not, not_lt] at hab
        exact hab
  unfold kth topList
  rw [List.getElem?_take_of_lt j.isLt, ← hs, List.getElem?_map, ← hij]
  unfold sortedFrom sortPositions
  rw [List.getElem?_eq_getElem (by rw [length_stableSort, List.length_finRange]; exact i.isLt)]
  rfl

/-- The sums with the first. -/
def codesF : List (Fin 256) := [0, 1, 2, 3, 4, 5, 6, 7, 8, 9, 10, 11, 12, 13, 14, 15]

/-- Sums that can be among the sixteen greatest. -/
def codesA : List (Fin 256) := [16, 17, 18, 19, 20, 21, 22, 23, 32, 33, 34, 35, 36, 48, 49, 50]

/-- Sums that can be among the sixteen greatest. -/
def codesB : List (Fin 256) := [51, 64, 65, 66, 80, 81, 96, 97, 112, 113, 128, 144, 160, 176, 192, 208]

/-- Sums that can be among the sixteen greatest. -/
def codesC : List (Fin 256) := [224, 240]

/-- All the sums that can be among the sixteen greatest. -/
def cand : List (Fin 256) := (codesF ++ codesA) ++ (codesB ++ codesC)

/-- The other sums. -/
def others : List (Fin 256) := (List.finRange 256).filter fun c => !cand.contains c

/-- Neither place comes later. -/
def earlier (o c : Fin 256) : Bool := decide (c.val / 16 ≤ o.val / 16) && decide (c.val % 16 ≤ o.val % 16)

theorem cand_perm : (cand ++ others).Perm (List.finRange 256) := by decide +kernel

theorem enough : ∀ o ∈ others, 16 ≤ (cand.filter (earlier o)).length := by decide +kernel

/-- The candidates, with nothing fourteen times over, have the sixteen greatest of all the sums. -/
theorem candidates {a b : Fin 16 → EReal} (ha : Antitone a) (hb : Antitone b) :
    topList 16 ((codesF.map (sums a b) ++ codesA.map (sums a b)) ++ (codesB.map (sums a b) ++ (codesC.map (sums a b) ++ List.replicate 14 ⊥)))
      = topList 16 (List.ofFn (sums a b)) := by
  have e1 : (codesF.map (sums a b) ++ codesA.map (sums a b)) ++ (codesB.map (sums a b) ++ (codesC.map (sums a b) ++ List.replicate 14 ⊥))
      = cand.map (sums a b) ++ List.replicate 14 ⊥ := by
    simp only [cand, List.map_append, List.append_assoc]
  have hc : 16 ≤ (cand.map (sums a b)).length := by rw [List.length_map]; decide
  rw [e1, topList_append_of_le 16 _ _ hc (fun s hs t _ => by rw [List.eq_of_mem_replicate hs]; exact bot_le)]
  rw [List.ofFn_eq_map, ← topList_perm (cand_perm.map (sums a b)), List.map_append]
  refine (topList_append_of_le 16 _ _ hc fun s hs t ht => ?_).symm
  obtain ⟨o, ho, rfl⟩ := List.mem_map.mp hs
  refine le_of_mem_topList_of_floor (R := (cand.filter (earlier o)).map (sums a b)) ((List.filter_sublist.map _).subperm)
    (by rw [List.length_map]; exact enough o ho) (fun r hr => ?_) ht
  obtain ⟨c, hc', rfl⟩ := List.mem_map.mp hr
  have h := (List.mem_filter.mp hc').2
  simp only [earlier, Bool.and_eq_true, decide_eq_true_eq] at h
  exact add_le_add (ha h.1) (hb h.2)

/-- A test that fails after a place passes exactly the places before one. -/
theorem cut (q : Fin 16 → Prop) (hq : ∀ i j, i ≤ j → q j → q i) : ∃ m : ℕ, m ≤ 16 ∧ ∀ r : Fin 16, q r ↔ r.val < m := by
  classical
  have hex : ∃ n : ℕ, ∀ r : Fin 16, n ≤ r.val → ¬ q r := ⟨16, fun r h => absurd r.isLt (by omega)⟩
  refine ⟨Nat.find hex, Nat.find_min' hex (fun r h => absurd r.isLt (by omega)), fun r => ⟨fun h => ?_, fun h => ?_⟩⟩
  · by_contra hn
    exact Nat.find_spec hex r (not_lt.mp hn) h
  · by_contra hn
    exact Nat.find_min hex h fun r' hr hq' => hn (hq r r' hr hq')

/-- How many places a falling test passes, by halving. -/
def countS (P : EReal → BitVec 1) (t : Slabs EReal) : EReal :=
  let t8 := P t.s7
  let t4 := P (Scalar.select t8 t.s11 t.s3)
  let t2 := P (Scalar.select t8 (Scalar.select t4 t.s13 t.s9) (Scalar.select t4 t.s5 t.s1))
  let t1 := P (Scalar.select t8 (Scalar.select t4 (Scalar.select t2 t.s14 t.s12) (Scalar.select t2 t.s10 t.s8)) (Scalar.select t4 (Scalar.select t2 t.s6 t.s4) (Scalar.select t2 t.s2 t.s0)))
  Scalar.select (P t.s15) (Ideal.ofBits .f32 0x41800000#32)
    ((Scalar.select t8 (Ideal.ofBits .f32 0x41000000#32) (Ideal.ofBits .f32 0x00000000#32) + Scalar.select t4 (Ideal.ofBits .f32 0x40800000#32) (Ideal.ofBits .f32 0x00000000#32))
      + (Scalar.select t2 (Ideal.ofBits .f32 0x40000000#32) (Ideal.ofBits .f32 0x00000000#32) + Scalar.select t1 (Ideal.ofBits .f32 0x3F800000#32) (Ideal.ofBits .f32 0x00000000#32)))

theorem two_eq : Ideal.ofBits .f32 0x40000000#32 = ((2 : ℝ) : EReal) := by
  simp [Ideal.ofBits, Ideal.ieee, -EReal.coe_mul]; norm_num

theorem four_eq : Ideal.ofBits .f32 0x40800000#32 = ((4 : ℝ) : EReal) := by
  simp [Ideal.ofBits, Ideal.ieee, -EReal.coe_mul]; norm_num

theorem eight_eq : Ideal.ofBits .f32 0x41000000#32 = ((8 : ℝ) : EReal) := by
  simp [Ideal.ofBits, Ideal.ieee, -EReal.coe_mul]; norm_num

theorem sixteen_eq : Ideal.ofBits .f32 0x41800000#32 = ((16 : ℝ) : EReal) := by
  simp [Ideal.ofBits, Ideal.ieee, -EReal.coe_mul]; norm_num

theorem card_before : ∀ m ≤ 16, (Finset.univ.filter fun r : Fin 16 => r.val < m).card = m := by decide

/-- How many places pass, place by place. -/
def countAll (P : EReal → BitVec 1) (t : Fin 16 → EReal) : EReal :=
  ∑ r : Fin 16, Scalar.select (P (t r)) (Ideal.ofBits .f32 0x3F800000#32) (Ideal.ofBits .f32 0x00000000#32)

theorem countS_eq (P : EReal → BitVec 1) (hP : ∀ x y, y ≤ x → P y = 1 → P x = 1) (t : Slabs EReal) (ht : Antitone t.get) :
    countS P t = countAll P t.get := by
  obtain ⟨m, hm, h⟩ := cut (fun r => P (t.get r) = 1) fun i j hij => hP _ _ (ht hij)
  have hr : countAll P t.get = ((m : ℕ) : EReal) := by
    unfold countAll Scalar.select
    simp only [h, Ideal.ofBits_one_f32, Ideal.ofBits_zero_f32]
    rw [Finset.sum_boole, card_before m hm]
  rw [hr]
  have h0 : P t.s0 = 1 ↔ 0 < m := h 0
  have h1 : P t.s1 = 1 ↔ 1 < m := h 1
  have h2 : P t.s2 = 1 ↔ 2 < m := h 2
  have h3 : P t.s3 = 1 ↔ 3 < m := h 3
  have h4 : P t.s4 = 1 ↔ 4 < m := h 4
  have h5 : P t.s5 = 1 ↔ 5 < m := h 5
  have h6 : P t.s6 = 1 ↔ 6 < m := h 6
  have h7 : P t.s7 = 1 ↔ 7 < m := h 7
  have h8 : P t.s8 = 1 ↔ 8 < m := h 8
  have h9 : P t.s9 = 1 ↔ 9 < m := h 9
  have h10 : P t.s10 = 1 ↔ 10 < m := h 10
  have h11 : P t.s11 = 1 ↔ 11 < m := h 11
  have h12 : P t.s12 = 1 ↔ 12 < m := h 12
  have h13 : P t.s13 = 1 ↔ 13 < m := h 13
  have h14 : P t.s14 = 1 ↔ 14 < m := h 14
  have h15 : P t.s15 = 1 ↔ 15 < m := h 15
  clear h hr ht hP
  unfold countS Scalar.select
  rw [two_eq, four_eq, eight_eq, sixteen_eq, Ideal.ofBits_one_f32, Ideal.ofBits_zero_f32]
  interval_cases m <;> norm_num at h0 h1 h2 h3 h4 h5 h6 h7 h8 h9 h10 h11 h12 h13 h14 h15 <;>
    simp only [h0, h1, h2, h3, h4, h5, h6, h7, h8, h9, h10, h11, h12, h13, h14, h15, if_true, if_false, add_zero, zero_add] <;>
    norm_cast

/-- The sixteenth greatest sum. -/
def least (s1 s2 : Fin 128 → EReal) : EReal := bests (tops s1) (tops s2) 15

/-- How many of the second list's greatest, added to a score of the first, reach the sixteenth greatest sum. -/
def reached (s1 s2 : Fin 128 → EReal) (k : Fin 128) : EReal :=
  countAll (fun b => Ideal.cmp .oge (s1 k + b) (least s1 s2)) (tops s2)

/-- How many of a list's greatest are above a score. -/
def above (s2 : Fin 128 → EReal) (k : Fin 128) : EReal := countAll (fun b => Ideal.cmp .olt (s2 k) b) (tops s2)

/-- The sum of the exponentials of the greatest sums. -/
def mass (s1 s2 : Fin 128 → EReal) : EReal :=
  ∑ r : Fin 16, Ideal.exp (bests (tops s1) (tops s2) r - bests (tops s1) (tops s2) 0)

/-- A score's exponential. -/
def weight (s : Fin 128 → EReal) (k : Fin 128) : EReal := Ideal.exp (s k - tops s 0)

/-- A score's exponential over the sum of exponentials. -/
def share (s1 s2 : Fin 128 → EReal) (k : Fin 128) : EReal :=
  weight s1 k * Ideal.div (Ideal.ofBits .f32 0x3F800000#32) (mass s1 s2)

end Cert.RouteNet

end
-- ==== Proof.RouteScalar.lean ====
/- What the routing kernel computes in one lane. -/
module

public import proofs.«01_k».proof.Proof.RoutePay
public import proofs.«01_k».proof.Proof.RouteMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteIdeal.Value

open Cert.RouteIdeal Cert.RouteIdeal.Gen Cert.RouteNet Idealize.ShloMosaic.SortNet

/-- Row `r`, lane `l` of every slab. -/
def at8 (r : Fin 8) (l : Fin 256) (x : Slabs T) : Slabs EReal := x.map fun v => v (ix2 r l)

theorem at_sort (r : Fin 8) (l : Fin 256) (x : Slabs T) : at8 r l (sort maximumf minimumf x) = sort max min (at8 r l x) :=
  map_sort (fun v : T => v (ix2 r l)) maximumf minimumf max min (fun _ _ => rfl) (fun _ _ => rfl) x

theorem at_merge (r : Fin 8) (l : Fin 256) (x y : Slabs T) : at8 r l (merge maximumf minimumf x y) = merge max min (at8 r l x) (at8 r l y) :=
  map_merge (fun v : T => v (ix2 r l)) maximumf minimumf max min (fun _ _ => rfl) (fun _ _ => rfl) x y

/-- The row that a turn by `n` brings to row `r`. -/
def turn (n : ℕ) (r : Fin 8) : Fin 8 := ⟨(r.val + 8 - n % 8) % 8, by omega⟩

theorem at_rolled (n : BitVec 32) (r : Fin 8) (l : Fin 256) (x : Slabs T) : at8 r l (rolled n x) = at8 (turn n.toNat r) l x := by
  have h : ∀ v : T, dynamicRotate 0 n none v rotates_S8x256_d0 (ix2 r l) = v (ix2 (turn n.toNat r) l) := by
    intro v
    rw [Pointwise.dynamicRotate_apply]
    refine congrArg v (funext fun a => ?_)
    match a with
    | ⟨0, _⟩ => exact Fin.ext (show (r.val + 8 - (n.toNat + 0) % 8) % 8 = (r.val + 8 - n.toNat % 8) % 8 from rfl)
    | ⟨1, _⟩ => rfl
  unfold at8 rolled Slabs.map
  simp only [h]

/-- The rows in place `r` of the slabs. -/
def rows (r : Fin 8) : List (Fin 128) := List.ofFn fun g : Fin 16 => (⟨8 * g.val + r.val, by omega⟩ : Fin 128)

theorem at_slabs (s : V) (r : Fin 8) (l : Fin 256) : List.ofFn (at8 r l (slabs s)).get = (rows r).map fun k => s (ix2 k l) := by
  unfold rows
  rw [List.map_ofFn]
  refine congrArg List.ofFn (funext fun g => ?_)
  fin_cases g
  · show extractStridedSlice S8x256 ![0, 0] s slices_S128x256_o0_0_S8x256 (ix2 r l) = s (ix2 (⟨8 * 0 + r.val, by omega⟩ : Fin 128) l)
    pointwise
  · show extractStridedSlice S8x256 ![8, 0] s slices_S128x256_o8_0_S8x256 (ix2 r l) = s (ix2 (⟨8 * 1 + r.val, by omega⟩ : Fin 128) l)
    pointwise
  · show extractStridedSlice S8x256 ![16, 0] s slices_S128x256_o16_0_S8x256 (ix2 r l) = s (ix2 (⟨8 * 2 + r.val, by omega⟩ : Fin 128) l)
    pointwise
  · show extractStridedSlice S8x256 ![24, 0] s slices_S128x256_o24_0_S8x256 (ix2 r l) = s (ix2 (⟨8 * 3 + r.val, by omega⟩ : Fin 128) l)
    pointwise
  · show extractStridedSlice S8x256 ![32, 0] s slices_S128x256_o32_0_S8x256 (ix2 r l) = s (ix2 (⟨8 * 4 + r.val, by omega⟩ : Fin 128) l)
    pointwise
  · show extractStridedSlice S8x256 ![40, 0] s slices_S128x256_o40_0_S8x256 (ix2 r l) = s (ix2 (⟨8 * 5 + r.val, by omega⟩ : Fin 128) l)
    pointwise
  · show extractStridedSlice S8x256 ![48, 0] s slices_S128x256_o48_0_S8x256 (ix2 r l) = s (ix2 (⟨8 * 6 + r.val, by omega⟩ : Fin 128) l)
    pointwise
  · show extractStridedSlice S8x256 ![56, 0] s slices_S128x256_o56_0_S8x256 (ix2 r l) = s (ix2 (⟨8 * 7 + r.val, by omega⟩ : Fin 128) l)
    pointwise
  · show extractStridedSlice S8x256 ![64, 0] s slices_S128x256_o64_0_S8x256 (ix2 r l) = s (ix2 (⟨8 * 8 + r.val, by omega⟩ : Fin 128) l)
    pointwise
  · show extractStridedSlice S8x256 ![72, 0] s slices_S128x256_o72_0_S8x256 (ix2 r l) = s (ix2 (⟨8 * 9 + r.val, by omega⟩ : Fin 128) l)
    pointwise
  · show extractStridedSlice S8x256 ![80, 0] s slices_S128x256_o80_0_S8x256 (ix2 r l) = s (ix2 (⟨8 * 10 + r.val, by omega⟩ : Fin 128) l)
    pointwise
  · show extractStridedSlice S8x256 ![88, 0] s slices_S128x256_o88_0_S8x256 (ix2 r l) = s (ix2 (⟨8 * 11 + r.val, by omega⟩ : Fin 128) l)
    pointwise
  · show extractStridedSlice S8x256 ![96, 0] s slices_S128x256_o96_0_S8x256 (ix2 r l) = s (ix2 (⟨8 * 12 + r.val, by omega⟩ : Fin 128) l)
    pointwise
  · show extractStridedSlice S8x256 ![104, 0] s slices_S128x256_o104_0_S8x256 (ix2 r l) = s (ix2 (⟨8 * 13 + r.val, by omega⟩ : Fin 128) l)
    pointwise
  · show extractStridedSlice S8x256 ![112, 0] s slices_S128x256_o112_0_S8x256 (ix2 r l) = s (ix2 (⟨8 * 14 + r.val, by omega⟩ : Fin 128) l)
    pointwise
  · show extractStridedSlice S8x256 ![120, 0] s slices_S128x256_o120_0_S8x256 (ix2 r l) = s (ix2 (⟨8 * 15 + r.val, by omega⟩ : Fin 128) l)
    pointwise

theorem fold_top (n : BitVec 32) (x : Slabs T) (l : Fin 256) (f : Fin 128 → EReal) (I : Fin 8 → List (Fin 128))
    (h : ∀ r, Top (at8 r l x) ((I r).map f)) (r : Fin 8) : Top (at8 r l (fold n x)) ((I r ++ I (turn n.toNat r)).map f) := by
  unfold fold
  rw [at_merge, at_rolled, List.map_append]
  exact merge_top (h r) (h _)

theorem rows_perm : (((rows 0 ++ rows (turn 4 0)) ++ (rows (turn 2 0) ++ rows (turn 4 (turn 2 0)))) ++ ((rows (turn 1 0) ++ rows (turn 4 (turn 1 0))) ++ (rows (turn 2 (turn 1 0)) ++ rows (turn 4 (turn 2 (turn 1 0)))))).Perm (List.finRange 128) := by
  decide +kernel

/-- The first row of the sorted slabs holds each lane's sixteen greatest scores. -/
theorem top16_top (s : V) (l : Fin 256) : Top (at8 0 l (top16 s)) (List.ofFn fun k : Fin 128 => s (ix2 k l)) := by
  have h0 : ∀ r, Top (at8 r l (sort maximumf minimumf (slabs s))) ((rows r).map fun k => s (ix2 k l)) := by
    intro r
    rw [at_sort, ← at_slabs]
    exact sort_top _
  have h1 := fold_top 4#32 _ l _ _ h0
  have h2 := fold_top 2#32 _ l _ _ h1
  have h3 := fold_top 1#32 _ l _ _ h2 0
  rw [List.ofFn_eq_map]
  exact h3.perm (rows_perm.map _)

theorem top16_get (s : V) (l : Fin 256) (i : Fin 16) : (at8 0 l (top16 s)).get i = tops (fun k => s (ix2 k l)) i := (top16_top s l).kth i

/-- The first row of the sorted sums holds each lane's sixteen greatest. -/
theorem best_top (x y : Slabs T) (l : Fin 256) (hx : Antitone (at8 0 l x).get) (hy : Antitone (at8 0 l y).get) :
    Top (at8 0 l (best x y)) (List.ofFn (sums (at8 0 l x).get (at8 0 l y).get)) := by
  have hF : List.ofFn (at8 0 l (first x y)).get = codesF.map (sums (at8 0 l x).get (at8 0 l y).get) := rfl
  have hA : List.ofFn (at8 0 l (restA x y)).get = codesA.map (sums (at8 0 l x).get (at8 0 l y).get) := rfl
  have hB : List.ofFn (at8 0 l (restB x y)).get = codesB.map (sums (at8 0 l x).get (at8 0 l y).get) := rfl
  have hz : (none8 : T) (ix2 0 l) = ⊥ := by
    show Ideal.ofBits .f32 0xFF800000#32 = ⊥
    simp [Ideal.ofBits, Ideal.ieee]
  have hC : List.ofFn (at8 0 l (restC x y)).get = codesC.map (sums (at8 0 l x).get (at8 0 l y).get) ++ List.replicate 14 ⊥ := by
    rw [← hz]
    rfl
  have tF : Top (at8 0 l (first x y)) (codesF.map (sums (at8 0 l x).get (at8 0 l y).get)) := by
    unfold RouteNet.Top
    rw [← hF]
    refine (topList_eq_self ?_ (by rw [List.length_ofFn])).symm
    rw [List.pairwise_ofFn]
    intro i j hij
    have e : ∀ i : Fin 16, (at8 0 l (first x y)).get i = (at8 0 l x).get 0 + (at8 0 l y).get i := by
      intro i
      fin_cases i <;> rfl
    rw [e, e]
    exact add_le_add le_rfl (hy hij.le)
  have tA := sort_top (at8 0 l (restA x y))
  have tB := sort_top (at8 0 l (restB x y))
  have tC := sort_top (at8 0 l (restC x y))
  rw [hA] at tA
  rw [hB] at tB
  rw [hC] at tC
  have h := merge_top (merge_top tF tA) (merge_top tB tC)
  unfold RouteNet.Top at h ⊢
  rw [← candidates hx hy, ← h]
  unfold best
  rw [at_merge, at_merge, at_merge, at_sort, at_sort, at_sort]

theorem rep_apply (x : T) (k : Fin 128) (l : Fin 256) : rep x (ix2 k l) = x (ix2 (0 : Fin 8) l) := by
  unfold rep
  pointwise

/-- One lane's count. -/
theorem count_apply (p : V → IVec S128x256 1) (P : EReal → BitVec 1) (hP : ∀ x y, y ≤ x → P y = 1 → P x = 1) (k : Fin 128) (l : Fin 256)
    (hp : ∀ v, p v (ix2 k l) = P (v (ix2 k l))) (x : Slabs T) (hx : Antitone (at8 0 l x).get) :
    count p (x.map rep) (ix2 k l) = countAll P (at8 0 l x).get := by
  rw [← countS_eq P hP _ hx]
  unfold count countS
  simp only [select, addf, hp, Slabs.map, at8, rep_apply]
  rfl

/-- One lane's sum of exponentials. -/
theorem total_apply (x : Slabs T) (l : Fin 256) :
    total x (ix2 0 l) = ∑ r : Fin 16, Ideal.exp ((at8 0 l x).get r - (at8 0 l x).get 0) := by
  simp only [Fin.sum_univ_castSucc, Finset.univ_eq_empty, Finset.sum_empty, zero_add]
  rfl

/-- One lane's scores. -/
def col (s : V) (l : Fin 256) (k : Fin 128) : EReal := s (ix2 k l)

theorem top16_col (s : V) (l : Fin 256) : (at8 0 l (top16 s)).get = tops (col s l) := funext fun i => top16_get s l i

theorem best_col (s1 s2 : V) (l : Fin 256) : (at8 0 l (best (top16 s1) (top16 s2))).get = bests (tops (col s1 l)) (tops (col s2 l)) := by
  funext i
  have h := (best_top (top16 s1) (top16 s2) l (by rw [top16_col]; exact tops_antitone _) (by rw [top16_col]; exact tops_antitone _)).kth i
  rw [h, top16_col, top16_col]
  rfl

theorem ofBool_one (b : Bool) : BitVec.ofBool b = 1 ↔ b = true := by cases b <;> decide

theorem N1_apply (s1 s2 : V) (k : Fin 128) (l : Fin 256) : N1 s1 s2 (ix2 k l) = reached (col s1 l) (col s2 l) k := by
  unfold N1 reached
  have hz : rep (best (top16 s1) (top16 s2)).s15 (ix2 k l) = least (col s1 l) (col s2 l) := by
    rw [rep_apply]
    exact congrFun (best_col s1 s2 l) 15
  rw [count_apply _ (fun b => Ideal.cmp .oge (col s1 l k + b) (least (col s1 l) (col s2 l))) ?_ k l ?_ _ ?_, top16_col]
  · intro x y hxy h
    have h' := of_decide_eq_true ((ofBool_one _).mp h)
    exact (ofBool_one _).mpr (decide_eq_true (le_trans h' (add_le_add le_rfl hxy)))
  · intro v
    rw [← hz]
    rfl
  · rw [top16_col]; exact tops_antitone _

theorem R2_apply (s2 : V) (k : Fin 128) (l : Fin 256) : R2 s2 (ix2 k l) = above (col s2 l) k := by
  unfold R2 above
  rw [count_apply _ (fun b => Ideal.cmp .olt (col s2 l k) b) ?_ k l ?_ _ ?_, top16_col]
  · intro x y hxy h
    have h' := of_decide_eq_true ((ofBool_one _).mp h)
    exact (ofBool_one _).mpr (decide_eq_true (lt_of_lt_of_le h' hxy))
  · intro v
    rfl
  · rw [top16_col]; exact tops_antitone _

theorem E2_apply (s2 : V) (k : Fin 128) (l : Fin 256) : E2 s2 (ix2 k l) = weight (col s2 l) k := by
  unfold E2 weight
  have h : rep (top16 s2).s0 (ix2 k l) = tops (col s2 l) 0 := by
    rw [rep_apply]
    exact congrFun (top16_col s2 l) 0
  rw [← h]
  rfl

theorem C1_apply (s1 s2 : V) (k : Fin 128) (l : Fin 256) : C1 s1 s2 (ix2 k l) = share (col s1 l) (col s2 l) k := by
  unfold C1 share weight mass
  have h : rep (top16 s1).s0 (ix2 k l) = tops (col s1 l) 0 := by
    rw [rep_apply]
    exact congrFun (top16_col s1 l) 0
  rw [← h, ← best_col, ← total_apply]
  refine congrArg₂ (· * ·) rfl ?_
  rw [rep_apply]
  rfl

end Cert.RouteIdeal.Value

end
-- ==== Proof.RouteOut.lean ====
/- What one grid point of the routing kernel leaves in its result blocks. -/
module

public import proofs.«01_k».proof.Proof.RouteScalar
public import Idealize.ShloMosaic.Lib.WritesUnit
public import Idealize.ShloMosaic.Lib.VecWindow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteIdeal.Value

open Cert.RouteIdeal Cert.RouteIdeal.Gen Cert.RouteNet

/-- Two tiles read back, one entry. -/
theorem read_tiles {κ : Kind} {sp : Space} {ety : EltTy} (v : View sig κ sp S1x8x128x128 ety) (f : v.ty.Contents (Elt Ideal)) (k : Fin k0_t1_loop.trips)
    (a b : Vec Ideal S1x1x128x128 ety) (L : List (View.Piece (Elt Ideal) S1x8x128x128 ety)) (n : Fin 8) (x y : Fin 128) :
    v.read (Elt Ideal) (v.writes (Elt Ideal) f (tiles k ety a b ++ L)) (ix4 (0 : Fin 1) n x y)
      = if n.val = 2 * k.val + 1 then a (ix4 (0 : Fin 1) (0 : Fin 1) x y)
        else if n.val = 2 * k.val then b (ix4 (0 : Fin 1) (0 : Fin 1) x y)
        else v.read (Elt Ideal) (v.writes (Elt Ideal) f L) (ix4 (0 : Fin 1) n x y) := by
  have h1 : k0_off2 k 1#32 = ![0, 2 * k.val + 1, 0, 0] := k0_off2_eq k 1
  have h0 : k0_off2 k 0#32 = ![0, 2 * k.val, 0, 0] := k0_off2_eq k 0
  unfold tiles
  by_cases hn : n.val = 2 * k.val + 1
  · rw [if_pos hn]
    refine View.read_writes_cons_unit_of_mem v f _ _ _ _ (ix4 (0 : Fin 1) (0 : Fin 1) x y) h1 fun a => ?_
    match a with
    | ⟨0, _⟩ => rfl
    | ⟨1, _⟩ => exact hn
    | ⟨2, _⟩ => exact (Nat.zero_add _).symm
    | ⟨3, _⟩ => exact (Nat.zero_add _).symm
  · rw [if_neg hn]
    refine (View.read_writes_cons_unit_of_not_mem v f _ _ _ _ h1 (1 : Fin 4) ?_).trans ?_
    · show n.val < 2 * k.val + 1 ∨ 2 * k.val + 1 + 1 ≤ n.val
      omega
    by_cases hm : n.val = 2 * k.val
    · rw [if_pos hm]
      refine View.read_writes_cons_unit_of_mem v f _ _ _ _ (ix4 (0 : Fin 1) (0 : Fin 1) x y) h0 fun a => ?_
      match a with
      | ⟨0, _⟩ => rfl
      | ⟨1, _⟩ => exact hm
      | ⟨2, _⟩ => exact (Nat.zero_add _).symm
      | ⟨3, _⟩ => exact (Nat.zero_add _).symm
    · rw [if_neg hm]
      refine View.read_writes_cons_unit_of_not_mem v f _ _ _ _ h0 (1 : Fin 4) ?_
      show n.val < 2 * k.val ∨ 2 * k.val + 1 ≤ n.val
      omega

/-- The trips. -/
def trip (n : ℕ) (h : n < 4) : Fin k0_t1_loop.trips := ⟨n, h⟩

/-- The tiles of all four trips, read at one entry. -/
theorem read_all {κ : Kind} {sp : Space} {ety : EltTy} (v : View sig κ sp S1x8x128x128 ety) (f : v.ty.Contents (Elt Ideal))
    (a b : Fin k0_t1_loop.trips → Vec Ideal S1x1x128x128 ety) (n : Fin 8) (x y : Fin 128) (R : Elt Ideal ety)
    (ha : ∀ k : Fin k0_t1_loop.trips, n.val = 2 * k.val + 1 → a k (ix4 (0 : Fin 1) (0 : Fin 1) x y) = R)
    (hb : ∀ k : Fin k0_t1_loop.trips, n.val = 2 * k.val → b k (ix4 (0 : Fin 1) (0 : Fin 1) x y) = R) :
    v.read (Elt Ideal) (v.writes (Elt Ideal) f (tiles (trip 3 (by decide)) ety (a (trip 3 (by decide))) (b (trip 3 (by decide)))
      ++ (tiles (trip 2 (by decide)) ety (a (trip 2 (by decide))) (b (trip 2 (by decide)))
      ++ (tiles (trip 1 (by decide)) ety (a (trip 1 (by decide))) (b (trip 1 (by decide)))
      ++ (tiles (trip 0 (by decide)) ety (a (trip 0 (by decide))) (b (trip 0 (by decide))) ++ []))))) (ix4 (0 : Fin 1) n x y) = R := by
  have hn := n.isLt
  rw [read_tiles, read_tiles, read_tiles, read_tiles]
  by_cases h7 : n.val = 2 * (trip 3 (by decide)).val + 1
  · rw [if_pos h7]; exact ha _ h7
  rw [if_neg h7]
  by_cases h6 : n.val = 2 * (trip 3 (by decide)).val
  · rw [if_pos h6]; exact hb _ h6
  rw [if_neg h6]
  by_cases h5 : n.val = 2 * (trip 2 (by decide)).val + 1
  · rw [if_pos h5]; exact ha _ h5
  rw [if_neg h5]
  by_cases h4 : n.val = 2 * (trip 2 (by decide)).val
  · rw [if_pos h4]; exact hb _ h4
  rw [if_neg h4]
  by_cases h3 : n.val = 2 * (trip 1 (by decide)).val + 1
  · rw [if_pos h3]; exact ha _ h3
  rw [if_neg h3]
  by_cases h2 : n.val = 2 * (trip 1 (by decide)).val
  · rw [if_pos h2]; exact hb _ h2
  rw [if_neg h2]
  by_cases h1 : n.val = 2 * (trip 0 (by decide)).val + 1
  · rw [if_pos h1]; exact ha _ h1
  rw [if_neg h1]
  by_cases h0 : n.val = 2 * (trip 0 (by decide)).val
  · rw [if_pos h0]; exact hb _ h0
  exfalso
  simp only [trip] at h0 h1 h2 h3 h4 h5 h6 h7
  omega

/-- Four trips, the later first. -/
theorem unroll {α : Type} (L : ℕ → List α) (T : Fin k0_t1_loop.trips → List α) (e : ∀ k, L (k.val + 1) = T k ++ L k.val) (h0 : L 0 = []) :
    L 4 = T (trip 3 (by decide)) ++ (T (trip 2 (by decide)) ++ (T (trip 1 (by decide)) ++ (T (trip 0 (by decide)) ++ []))) := by
  have e3 : L 4 = _ ++ L 3 := e (trip 3 (by decide))
  have e2 : L 3 = _ ++ L 2 := e (trip 2 (by decide))
  have e1 : L 2 = _ ++ L 1 := e (trip 1 (by decide))
  have e0 : L 1 = _ ++ L 0 := e (trip 0 (by decide))
  rw [e3, e2, e1, e0, h0]

/-- One trip's scores against the first half of the keys. -/
def sc1 (arg4 : Memref sig .tc .vmem S2x128x128 .bf16) (arg9 : Memref sig .tc .vmem S1024x256 .bf16) (X4 : BufTy.Contents (Elt Ideal) arg4.view.ty) (X9 : BufTy.Contents (Elt Ideal) arg9.view.ty) (k : Fin k0_t1_loop.trips) : V :=
  k0_pay3 (F := Ideal) (arg9.view.readAt (Elt Ideal) (Rect.unit (s := S1024x256) (k0_off1 k) S256x256.size (k0_off1_inb k)).toLoadRect X9) (arg4.view.readAt (Elt Ideal) (Rect.unit (s := S2x128x128) ![0, 0, 0] S1x128x128.size inb_S2x128x128_S1x128x128_0_0_0).toLoadRect X4)

/-- One trip's scores against the second half of the keys. -/
def sc2 (arg4 : Memref sig .tc .vmem S2x128x128 .bf16) (arg9 : Memref sig .tc .vmem S1024x256 .bf16) (X4 : BufTy.Contents (Elt Ideal) arg4.view.ty) (X9 : BufTy.Contents (Elt Ideal) arg9.view.ty) (k : Fin k0_t1_loop.trips) : V :=
  k0_pay4 (F := Ideal) (arg9.view.readAt (Elt Ideal) (Rect.unit (s := S1024x256) (k0_off1 k) S256x256.size (k0_off1_inb k)).toLoadRect X9) (arg4.view.readAt (Elt Ideal) (Rect.unit (s := S2x128x128) ![1, 0, 0] S1x128x128.size inb_S2x128x128_S1x128x128_1_0_0).toLoadRect X4)

/-- The score of row `a` of a block of tokens against key `κ` of half `p`. -/
def blockScore (x0 : Vec Ideal S1024x2048 .bf16) (x1 : Vec Ideal S2048x256 .bf16) (x2 : Vec Ideal S2x128x128 .bf16) (p : Fin 2) (a : Fin 1024) (κ : Fin 128) : EReal :=
  ∑ j : Fin 128, (show EReal from x2 (ix3 p κ j)) * ∑ e : Fin 2048, (show EReal from x0 (ix2 a e)) * (show EReal from x1 (ix2 e (⟨p.val * 128 + j.val, by omega⟩ : Fin 256)))

/-- The queries of a block. -/
theorem pay1_apply (x0 : Vec Ideal S1024x2048 .bf16) (x1 : Vec Ideal S2048x256 .bf16) (a : Fin 1024) (j : Fin 256) :
    (show EReal from k0_pay1 (F := Ideal) x0 x1 (ix2 a j)) = ∑ e : Fin 2048, (show EReal from x0 (ix2 a e)) * (show EReal from x1 (ix2 e j)) := by
  pointwise [k0_pay1]

/-- Scores from queries and one half of the keys. -/
theorem pay3_apply (q : Vec Ideal S256x256 .bf16) (w : Vec Ideal S1x128x128 .bf16) (κ : Fin 128) (l : Fin 256) :
    (show EReal from k0_pay3 (F := Ideal) q w (ix2 κ l)) = ∑ j : Fin 128, (show EReal from w (ix3 (0 : Fin 1) κ j)) * (show EReal from q (ix2 l (⟨j.val, by omega⟩ : Fin 256))) := by
  pointwise [k0_pay3]

theorem pay4_apply (q : Vec Ideal S256x256 .bf16) (w : Vec Ideal S1x128x128 .bf16) (κ : Fin 128) (l : Fin 256) :
    (show EReal from k0_pay4 (F := Ideal) q w (ix2 κ l)) = ∑ j : Fin 128, (show EReal from w (ix3 (0 : Fin 1) κ j)) * (show EReal from q (ix2 l (⟨128 + j.val, by omega⟩ : Fin 256))) := by
  pointwise [k0_pay4]

/-- The queries in the scratch buffer. -/
def scr (arg9 : Memref sig .tc .vmem S1024x256 .bf16) (q : Vec Ideal S1024x256 .bf16) : BufTy.Contents (Elt Ideal) arg9.view.ty :=
  arg9.view.writes (Elt Ideal) arg9.view.junk [⟨Rect.unit ![0, 0] S1024x256.size inb_S1024x256_S1024x256_0_0, q⟩]

/-- The rows of one trip, read back from the scratch buffer. -/
theorem rows_apply (arg9 : Memref sig .tc .vmem S1024x256 .bf16) (q : Vec Ideal S1024x256 .bf16) (k : Fin k0_t1_loop.trips) (l : Fin 256) (j : Fin 256) (a : Fin 1024) (ha : a.val = 256 * k.val + l.val) :
    arg9.view.readAt (Elt Ideal) (Rect.unit (s := S1024x256) (k0_off1 k) S256x256.size (k0_off1_inb k)).toLoadRect (scr arg9 q) (ix2 l j) = q (ix2 a j) := by
  rw [View.readAt_eq_ld, scr, View.read_writes_full]
  refine View.ld_unit_apply_of q _ _ _ _ (ix2 a j) fun b => ?_
  refine Eq.trans ?_ (congrArg (· + _) (congrFun (k0_off1_eq k) b).symm)
  match b with
  | ⟨0, _⟩ => exact ha
  | ⟨1, _⟩ => exact (Nat.zero_add _).symm

/-- One half of the keys, read from the buffer that holds both. -/
theorem keys_apply (arg4 : Memref sig .tc .vmem S2x128x128 .bf16) (harg4 : arg4.IsWhole) (x2 : Vec Ideal S2x128x128 .bf16) (p : ℕ) (p' : Fin 2) (hp : p'.val = p) (inb) (κ j : Fin 128) :
    arg4.view.readAt (Elt Ideal) (Rect.unit (s := S2x128x128) ![p, 0, 0] S1x128x128.size inb).toLoadRect (harg4.unread x2) (ix3 (0 : Fin 1) κ j) = x2 (ix3 p' κ j) := by
  rw [View.readAt_eq_ld, harg4.read_unread]
  refine View.ld_unit_apply_of x2 _ _ _ _ (ix3 p' κ j) fun b => ?_
  match b with
  | ⟨0, _⟩ => exact hp
  | ⟨1, _⟩ => exact (Nat.zero_add _).symm
  | ⟨2, _⟩ => exact (Nat.zero_add _).symm

variable (x0 : Vec Ideal S1024x2048 .bf16) (x1 : Vec Ideal S2048x256 .bf16) (x2 : Vec Ideal S2x128x128 .bf16)

theorem col_sc1 (arg4 : Memref sig .tc .vmem S2x128x128 .bf16) (arg9 : Memref sig .tc .vmem S1024x256 .bf16) (harg4 : arg4.IsWhole) (k : Fin k0_t1_loop.trips) (l : Fin 256) (a : Fin 1024) (ha : a.val = 256 * k.val + l.val) :
    col (sc1 arg4 arg9 (harg4.unread x2) (scr arg9 (k0_pay1 (F := Ideal) x0 x1)) k) l = blockScore x0 x1 x2 0 a := by
  funext κ
  refine (pay3_apply _ _ κ l).trans (Finset.sum_congr rfl fun j _ => ?_)
  rw [keys_apply arg4 harg4 x2 0 0 rfl, rows_apply arg9 _ k l _ a ha, pay1_apply]
  exact congrArg (_ * ·) (Finset.sum_congr rfl fun e _ => congrArg (fun z : Fin 256 => _ * (show EReal from x1 (ix2 e z))) (Fin.ext (by show j.val = 0 * 128 + j.val; omega)))

theorem col_sc2 (arg4 : Memref sig .tc .vmem S2x128x128 .bf16) (arg9 : Memref sig .tc .vmem S1024x256 .bf16) (harg4 : arg4.IsWhole) (k : Fin k0_t1_loop.trips) (l : Fin 256) (a : Fin 1024) (ha : a.val = 256 * k.val + l.val) :
    col (sc2 arg4 arg9 (harg4.unread x2) (scr arg9 (k0_pay1 (F := Ideal) x0 x1)) k) l = blockScore x0 x1 x2 1 a := by
  funext κ
  refine (pay4_apply _ _ κ l).trans (Finset.sum_congr rfl fun j _ => ?_)
  rw [keys_apply arg4 harg4 x2 1 1 rfl, rows_apply arg9 _ k l _ a ha, pay1_apply]
  exact congrArg (_ * ·) (Finset.sum_congr rfl fun e _ => congrArg (fun z : Fin 256 => _ * (show EReal from x1 (ix2 e z))) (Fin.ext (by show 128 + j.val = 1 * 128 + j.val; omega)))

theorem pay1658_apply (w : FVec Ideal S128x256 .f32) (x y : Fin 128) :
    k0_pay1658 (F := Ideal) w (ix4 (0 : Fin 1) (0 : Fin 1) x y) = w (ix2 x (⟨128 + y.val, by omega⟩ : Fin 256)) := by
  pointwise [k0_pay1658]

theorem pay1660_apply (w : FVec Ideal S128x256 .f32) (x y : Fin 128) :
    k0_pay1660 (F := Ideal) w (ix4 (0 : Fin 1) (0 : Fin 1) x y) = w (ix2 x (⟨128 + y.val, by omega⟩ : Fin 256)) := by
  pointwise [k0_pay1660]

theorem pay1659_apply (w : FVec Ideal S128x256 .bf16) (x y : Fin 128) :
    k0_pay1659 (F := Ideal) w (ix4 (0 : Fin 1) (0 : Fin 1) x y) = w (ix2 x (⟨128 + y.val, by omega⟩ : Fin 256)) := by
  pointwise [k0_pay1659]

theorem pay1653_apply (w : FVec Ideal S128x256 .f32) (x y : Fin 128) :
    k0_pay1653 (F := Ideal) w (ix4 (0 : Fin 1) (0 : Fin 1) x y) = w (ix2 x (⟨y.val, by omega⟩ : Fin 256)) := by
  pointwise [k0_pay1653]

theorem pay1656_apply (w : FVec Ideal S128x256 .f32) (x y : Fin 128) :
    k0_pay1656 (F := Ideal) w (ix4 (0 : Fin 1) (0 : Fin 1) x y) = w (ix2 x (⟨y.val, by omega⟩ : Fin 256)) := by
  pointwise [k0_pay1656]

theorem pay1657_apply (w : FVec Ideal S128x256 .bf16) (x y : Fin 128) :
    k0_pay1657 (F := Ideal) w (ix4 (0 : Fin 1) (0 : Fin 1) x y) = w (ix2 x (⟨y.val, by omega⟩ : Fin 256)) := by
  pointwise [k0_pay1657]

/-- The pieces the loop writes. -/
theorem pieces_n1 (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (X4 : BufTy.Contents (Elt Ideal) arg4.view.ty) (X9 : BufTy.Contents (Elt Ideal) arg9.view.ty) :
    (pb_k0_t1 (F := Ideal) Variants.none c none i arg2 harg2 arg3 harg3 arg4 harg4 arg5 harg5 arg6 harg6 arg7 harg7 arg8 harg8 arg9 harg9 X4 X9 4).1
      = (fun T : Fin k0_t1_loop.trips → List (View.Piece (Elt Ideal) S1x8x128x128 .f32) => T (trip 3 (by decide)) ++ (T (trip 2 (by decide)) ++ (T (trip 1 (by decide)) ++ (T (trip 0 (by decide)) ++ []))))
        (fun k => tiles k .f32 (k0_pay1658 (F := Ideal) (N1 (sc1 arg4 arg9 X4 X9 k) (sc2 arg4 arg9 X4 X9 k))) (k0_pay1653 (F := Ideal) (N1 (sc1 arg4 arg9 X4 X9 k) (sc2 arg4 arg9 X4 X9 k)))) := by
  have e : ∀ k : Fin k0_t1_loop.trips, (pb_k0_t1 (F := Ideal) Variants.none c none i arg2 harg2 arg3 harg3 arg4 harg4 arg5 harg5 arg6 harg6 arg7 harg7 arg8 harg8 arg9 harg9 X4 X9 (k.val + 1)).1
      = tiles k .f32 (k0_pay1658 (F := Ideal) (N1 (sc1 arg4 arg9 X4 X9 k) (sc2 arg4 arg9 X4 X9 k))) (k0_pay1653 (F := Ideal) (N1 (sc1 arg4 arg9 X4 X9 k) (sc2 arg4 arg9 X4 X9 k))) ++ (pb_k0_t1 (F := Ideal) Variants.none c none i arg2 harg2 arg3 harg3 arg4 harg4 arg5 harg5 arg6 harg6 arg7 harg7 arg8 harg8 arg9 harg9 X4 X9 k.val).1 := fun k =>
    (congrArg (fun z => z.1) (pb_k0_t1_succ (F := Ideal) Variants.none c none i arg2 harg2 arg3 harg3 arg4 harg4 arg5 harg5 arg6 harg6 arg7 harg7 arg8 harg8 arg9 harg9 X4 X9 k)).trans
      (congrArg (fun z => z ++ (pb_k0_t1 (F := Ideal) Variants.none c none i arg2 harg2 arg3 harg3 arg4 harg4 arg5 harg5 arg6 harg6 arg7 harg7 arg8 harg8 arg9 harg9 X4 X9 k.val).1) (trip_n1 Variants.none c none i arg2 harg2 arg3 harg3 arg4 harg4 arg5 harg5 arg6 harg6 arg7 harg7 arg8 harg8 arg9 harg9 X4 X9 k))
  exact unroll (fun n => (pb_k0_t1 (F := Ideal) Variants.none c none i arg2 harg2 arg3 harg3 arg4 harg4 arg5 harg5 arg6 harg6 arg7 harg7 arg8 harg8 arg9 harg9 X4 X9 n).1) _ e rfl

/-- One entry of result 3's block. -/
theorem out_n1 (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (n : Fin 8) (x y : Fin 128) (A : Fin 1024) (hA : A.val = n.val * 128 + y.val) :
    (show EReal from out0_A_3 (F := Ideal) c i arg2 harg2 arg3 harg3 arg4 harg4 arg5 harg5 arg6 harg6 arg7 harg7 arg8 harg8 arg9 harg9 x0 x1 x2 (ix4 (0 : Fin 1) n x y)) = reached (blockScore x0 x1 x2 0 A) (blockScore x0 x1 x2 1 A) x := by
  have hL : (kernelRun0_A (F := Ideal) c i arg2 harg2 arg3 harg3 arg4 harg4 arg5 harg5 arg6 harg6 arg7 harg7 arg8 harg8 arg9 harg9 x0 x1 x2).1 = (pb_k0_t1 (F := Ideal) Variants.none c none i arg2 harg2 arg3 harg3 arg4 harg4 arg5 harg5 arg6 harg6 arg7 harg7 arg8 harg8 arg9 harg9 (harg4.unread x2) (scr arg9 (k0_pay1 (F := Ideal) x0 x1)) 4).1 := by
    unfold kernelRun0_A
    dsimp only
    sl_unfold_words
    rw [View.readAt_full, View.readAt_full, harg2.read_unread, harg3.read_unread]
    rfl
  unfold out0_A_3
  rw [hL, pieces_n1]
  refine read_all VO0_3 _ (fun k => k0_pay1658 (F := Ideal) (N1 (sc1 arg4 arg9 (harg4.unread x2) (scr arg9 (k0_pay1 (F := Ideal) x0 x1)) k) (sc2 arg4 arg9 (harg4.unread x2) (scr arg9 (k0_pay1 (F := Ideal) x0 x1)) k))) (fun k => k0_pay1653 (F := Ideal) (N1 (sc1 arg4 arg9 (harg4.unread x2) (scr arg9 (k0_pay1 (F := Ideal) x0 x1)) k) (sc2 arg4 arg9 (harg4.unread x2) (scr arg9 (k0_pay1 (F := Ideal) x0 x1)) k))) n x y _ (fun k hk => ?_) (fun k hk => ?_)
  · refine (pay1658_apply _ x y).trans ((N1_apply _ _ x _).trans ?_)
    rw [col_sc1 x0 x1 x2 arg4 arg9 harg4 k _ A (by show A.val = 256 * k.val + (128 + y.val); omega), col_sc2 x0 x1 x2 arg4 arg9 harg4 k _ A (by show A.val = 256 * k.val + (128 + y.val); omega)]
  · refine (pay1653_apply _ x y).trans ((N1_apply _ _ x _).trans ?_)
    rw [col_sc1 x0 x1 x2 arg4 arg9 harg4 k _ A (by show A.val = 256 * k.val + y.val; omega), col_sc2 x0 x1 x2 arg4 arg9 harg4 k _ A (by show A.val = 256 * k.val + y.val; omega)]

/-- The pieces the loop writes. -/
theorem pieces_c1 (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (X4 : BufTy.Contents (Elt Ideal) arg4.view.ty) (X9 : BufTy.Contents (Elt Ideal) arg9.view.ty) :
    (pb_k0_t1 (F := Ideal) Variants.none c none i arg2 harg2 arg3 harg3 arg4 harg4 arg5 harg5 arg6 harg6 arg7 harg7 arg8 harg8 arg9 harg9 X4 X9 4).2.1
      = (fun T : Fin k0_t1_loop.trips → List (View.Piece (Elt Ideal) S1x8x128x128 .f32) => T (trip 3 (by decide)) ++ (T (trip 2 (by decide)) ++ (T (trip 1 (by decide)) ++ (T (trip 0 (by decide)) ++ []))))
        (fun k => tiles k .f32 (k0_pay1660 (F := Ideal) (C1 (sc1 arg4 arg9 X4 X9 k) (sc2 arg4 arg9 X4 X9 k))) (k0_pay1656 (F := Ideal) (C1 (sc1 arg4 arg9 X4 X9 k) (sc2 arg4 arg9 X4 X9 k)))) := by
  have e : ∀ k : Fin k0_t1_loop.trips, (pb_k0_t1 (F := Ideal) Variants.none c none i arg2 harg2 arg3 harg3 arg4 harg4 arg5 harg5 arg6 harg6 arg7 harg7 arg8 harg8 arg9 harg9 X4 X9 (k.val + 1)).2.1
      = tiles k .f32 (k0_pay1660 (F := Ideal) (C1 (sc1 arg4 arg9 X4 X9 k) (sc2 arg4 arg9 X4 X9 k))) (k0_pay1656 (F := Ideal) (C1 (sc1 arg4 arg9 X4 X9 k) (sc2 arg4 arg9 X4 X9 k))) ++ (pb_k0_t1 (F := Ideal) Variants.none c none i arg2 harg2 arg3 harg3 arg4 harg4 arg5 harg5 arg6 harg6 arg7 harg7 arg8 harg8 arg9 harg9 X4 X9 k.val).2.1 := fun k =>
    (congrArg (fun z => z.2.1) (pb_k0_t1_succ (F := Ideal) Variants.none c none i arg2 harg2 arg3 harg3 arg4 harg4 arg5 harg5 arg6 harg6 arg7 harg7 arg8 harg8 arg9 harg9 X4 X9 k)).trans
      (congrArg (fun z => z ++ (pb_k0_t1 (F := Ideal) Variants.none c none i arg2 harg2 arg3 harg3 arg4 harg4 arg5 harg5 arg6 harg6 arg7 harg7 arg8 harg8 arg9 harg9 X4 X9 k.val).2.1) (trip_c1 Variants.none c none i arg2 harg2 arg3 harg3 arg4 harg4 arg5 harg5 arg6 harg6 arg7 harg7 arg8 harg8 arg9 harg9 X4 X9 k))
  exact unroll (fun n => (pb_k0_t1 (F := Ideal) Variants.none c none i arg2 harg2 arg3 harg3 arg4 harg4 arg5 harg5 arg6 harg6 arg7 harg7 arg8 harg8 arg9 harg9 X4 X9 n).2.1) _ e rfl

/-- One entry of result 4's block. -/
theorem out_c1 (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (n : Fin 8) (x y : Fin 128) (A : Fin 1024) (hA : A.val = n.val * 128 + y.val) :
    (show EReal from out0_A_4 (F := Ideal) c i arg2 harg2 arg3 harg3 arg4 harg4 arg5 harg5 arg6 harg6 arg7 harg7 arg8 harg8 arg9 harg9 x0 x1 x2 (ix4 (0 : Fin 1) n x y)) = share (blockScore x0 x1 x2 0 A) (blockScore x0 x1 x2 1 A) x := by
  have hL : (kernelRun0_A (F := Ideal) c i arg2 harg2 arg3 harg3 arg4 harg4 arg5 harg5 arg6 harg6 arg7 harg7 arg8 harg8 arg9 harg9 x0 x1 x2).2.1 = (pb_k0_t1 (F := Ideal) Variants.none c none i arg2 harg2 arg3 harg3 arg4 harg4 arg5 harg5 arg6 harg6 arg7 harg7 arg8 harg8 arg9 harg9 (harg4.unread x2) (scr arg9 (k0_pay1 (F := Ideal) x0 x1)) 4).2.1 := by
    unfold kernelRun0_A
    dsimp only
    sl_unfold_words
    rw [View.readAt_full, View.readAt_full, harg2.read_unread, harg3.read_unread]
    rfl
  unfold out0_A_4
  rw [hL, pieces_c1]
  refine read_all VO0_4 _ (fun k => k0_pay1660 (F := Ideal) (C1 (sc1 arg4 arg9 (harg4.unread x2) (scr arg9 (k0_pay1 (F := Ideal) x0 x1)) k) (sc2 arg4 arg9 (harg4.unread x2) (scr arg9 (k0_pay1 (F := Ideal) x0 x1)) k))) (fun k => k0_pay1656 (F := Ideal) (C1 (sc1 arg4 arg9 (harg4.unread x2) (scr arg9 (k0_pay1 (F := Ideal) x0 x1)) k) (sc2 arg4 arg9 (harg4.unread x2) (scr arg9 (k0_pay1 (F := Ideal) x0 x1)) k))) n x y _ (fun k hk => ?_) (fun k hk => ?_)
  · refine (pay1660_apply _ x y).trans ((C1_apply _ _ x _).trans ?_)
    rw [col_sc1 x0 x1 x2 arg4 arg9 harg4 k _ A (by show A.val = 256 * k.val + (128 + y.val); omega), col_sc2 x0 x1 x2 arg4 arg9 harg4 k _ A (by show A.val = 256 * k.val + (128 + y.val); omega)]
  · refine (pay1656_apply _ x y).trans ((C1_apply _ _ x _).trans ?_)
    rw [col_sc1 x0 x1 x2 arg4 arg9 harg4 k _ A (by show A.val = 256 * k.val + y.val; omega), col_sc2 x0 x1 x2 arg4 arg9 harg4 k _ A (by show A.val = 256 * k.val + y.val; omega)]

/-- The pieces the loop writes. -/
theorem pieces_r2 (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (X4 : BufTy.Contents (Elt Ideal) arg4.view.ty) (X9 : BufTy.Contents (Elt Ideal) arg9.view.ty) :
    (pb_k0_t1 (F := Ideal) Variants.none c none i arg2 harg2 arg3 harg3 arg4 harg4 arg5 harg5 arg6 harg6 arg7 harg7 arg8 harg8 arg9 harg9 X4 X9 4).2.2.1
      = (fun T : Fin k0_t1_loop.trips → List (View.Piece (Elt Ideal) S1x8x128x128 .bf16) => T (trip 3 (by decide)) ++ (T (trip 2 (by decide)) ++ (T (trip 1 (by decide)) ++ (T (trip 0 (by decide)) ++ []))))
        (fun k => tiles k .bf16 (k0_pay1659 (F := Ideal) (truncf .bf16 (R2 (sc2 arg4 arg9 X4 X9 k)) bitsLt_bf16_f32)) (k0_pay1657 (F := Ideal) (truncf .bf16 (R2 (sc2 arg4 arg9 X4 X9 k)) bitsLt_bf16_f32))) := by
  have e : ∀ k : Fin k0_t1_loop.trips, (pb_k0_t1 (F := Ideal) Variants.none c none i arg2 harg2 arg3 harg3 arg4 harg4 arg5 harg5 arg6 harg6 arg7 harg7 arg8 harg8 arg9 harg9 X4 X9 (k.val + 1)).2.2.1
      = tiles k .bf16 (k0_pay1659 (F := Ideal) (truncf .bf16 (R2 (sc2 arg4 arg9 X4 X9 k)) bitsLt_bf16_f32)) (k0_pay1657 (F := Ideal) (truncf .bf16 (R2 (sc2 arg4 arg9 X4 X9 k)) bitsLt_bf16_f32)) ++ (pb_k0_t1 (F := Ideal) Variants.none c none i arg2 harg2 arg3 harg3 arg4 harg4 arg5 harg5 arg6 harg6 arg7 harg7 arg8 harg8 arg9 harg9 X4 X9 k.val).2.2.1 := fun k =>
    (congrArg (fun z => z.2.2.1) (pb_k0_t1_succ (F := Ideal) Variants.none c none i arg2 harg2 arg3 harg3 arg4 harg4 arg5 harg5 arg6 harg6 arg7 harg7 arg8 harg8 arg9 harg9 X4 X9 k)).trans
      (congrArg (fun z => z ++ (pb_k0_t1 (F := Ideal) Variants.none c none i arg2 harg2 arg3 harg3 arg4 harg4 arg5 harg5 arg6 harg6 arg7 harg7 arg8 harg8 arg9 harg9 X4 X9 k.val).2.2.1) (trip_r2 Variants.none c none i arg2 harg2 arg3 harg3 arg4 harg4 arg5 harg5 arg6 harg6 arg7 harg7 arg8 harg8 arg9 harg9 X4 X9 k))
  exact unroll (fun n => (pb_k0_t1 (F := Ideal) Variants.none c none i arg2 harg2 arg3 harg3 arg4 harg4 arg5 harg5 arg6 harg6 arg7 harg7 arg8 harg8 arg9 harg9 X4 X9 n).2.2.1) _ e rfl

/-- One entry of result 5's block. -/
theorem out_r2 (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (n : Fin 8) (x y : Fin 128) (A : Fin 1024) (hA : A.val = n.val * 128 + y.val) :
    (show EReal from out0_A_5 (F := Ideal) c i arg2 harg2 arg3 harg3 arg4 harg4 arg5 harg5 arg6 harg6 arg7 harg7 arg8 harg8 arg9 harg9 x0 x1 x2 (ix4 (0 : Fin 1) n x y)) = above (blockScore x0 x1 x2 1 A) x := by
  have hL : (kernelRun0_A (F := Ideal) c i arg2 harg2 arg3 harg3 arg4 harg4 arg5 harg5 arg6 harg6 arg7 harg7 arg8 harg8 arg9 harg9 x0 x1 x2).2.2.1 = (pb_k0_t1 (F := Ideal) Variants.none c none i arg2 harg2 arg3 harg3 arg4 harg4 arg5 harg5 arg6 harg6 arg7 harg7 arg8 harg8 arg9 harg9 (harg4.unread x2) (scr arg9 (k0_pay1 (F := Ideal) x0 x1)) 4).2.2.1 := by
    unfold kernelRun0_A
    dsimp only
    sl_unfold_words
    rw [View.readAt_full, View.readAt_full, harg2.read_unread, harg3.read_unread]
    rfl
  unfold out0_A_5
  rw [hL, pieces_r2]
  refine read_all VO0_5 _ (fun k => k0_pay1659 (F := Ideal) (truncf .bf16 (R2 (sc2 arg4 arg9 (harg4.unread x2) (scr arg9 (k0_pay1 (F := Ideal) x0 x1)) k)) bitsLt_bf16_f32)) (fun k => k0_pay1657 (F := Ideal) (truncf .bf16 (R2 (sc2 arg4 arg9 (harg4.unread x2) (scr arg9 (k0_pay1 (F := Ideal) x0 x1)) k)) bitsLt_bf16_f32)) n x y _ (fun k hk => ?_) (fun k hk => ?_)
  · refine (pay1659_apply _ x y).trans ((R2_apply _ x _).trans ?_)
    rw [col_sc2 x0 x1 x2 arg4 arg9 harg4 k _ A (by show A.val = 256 * k.val + (128 + y.val); omega)]
  · refine (pay1657_apply _ x y).trans ((R2_apply _ x _).trans ?_)
    rw [col_sc2 x0 x1 x2 arg4 arg9 harg4 k _ A (by show A.val = 256 * k.val + y.val; omega)]

/-- The pieces the loop writes. -/
theorem pieces_e2 (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (X4 : BufTy.Contents (Elt Ideal) arg4.view.ty) (X9 : BufTy.Contents (Elt Ideal) arg9.view.ty) :
    (pb_k0_t1 (F := Ideal) Variants.none c none i arg2 harg2 arg3 harg3 arg4 harg4 arg5 harg5 arg6 harg6 arg7 harg7 arg8 harg8 arg9 harg9 X4 X9 4).2.2.2
      = (fun T : Fin k0_t1_loop.trips → List (View.Piece (Elt Ideal) S1x8x128x128 .bf16) => T (trip 3 (by decide)) ++ (T (trip 2 (by decide)) ++ (T (trip 1 (by decide)) ++ (T (trip 0 (by decide)) ++ []))))
        (fun k => tiles k .bf16 (k0_pay1659 (F := Ideal) (truncf .bf16 (E2 (sc2 arg4 arg9 X4 X9 k)) bitsLt_bf16_f32)) (k0_pay1657 (F := Ideal) (truncf .bf16 (E2 (sc2 arg4 arg9 X4 X9 k)) bitsLt_bf16_f32))) := by
  have e : ∀ k : Fin k0_t1_loop.trips, (pb_k0_t1 (F := Ideal) Variants.none c none i arg2 harg2 arg3 harg3 arg4 harg4 arg5 harg5 arg6 harg6 arg7 harg7 arg8 harg8 arg9 harg9 X4 X9 (k.val + 1)).2.2.2
      = tiles k .bf16 (k0_pay1659 (F := Ideal) (truncf .bf16 (E2 (sc2 arg4 arg9 X4 X9 k)) bitsLt_bf16_f32)) (k0_pay1657 (F := Ideal) (truncf .bf16 (E2 (sc2 arg4 arg9 X4 X9 k)) bitsLt_bf16_f32)) ++ (pb_k0_t1 (F := Ideal) Variants.none c none i arg2 harg2 arg3 harg3 arg4 harg4 arg5 harg5 arg6 harg6 arg7 harg7 arg8 harg8 arg9 harg9 X4 X9 k.val).2.2.2 := fun k =>
    (congrArg (fun z => z.2.2.2) (pb_k0_t1_succ (F := Ideal) Variants.none c none i arg2 harg2 arg3 harg3 arg4 harg4 arg5 harg5 arg6 harg6 arg7 harg7 arg8 harg8 arg9 harg9 X4 X9 k)).trans
      (congrArg (fun z => z ++ (pb_k0_t1 (F := Ideal) Variants.none c none i arg2 harg2 arg3 harg3 arg4 harg4 arg5 harg5 arg6 harg6 arg7 harg7 arg8 harg8 arg9 harg9 X4 X9 k.val).2.2.2) (trip_e2 Variants.none c none i arg2 harg2 arg3 harg3 arg4 harg4 arg5 harg5 arg6 harg6 arg7 harg7 arg8 harg8 arg9 harg9 X4 X9 k))
  exact unroll (fun n => (pb_k0_t1 (F := Ideal) Variants.none c none i arg2 harg2 arg3 harg3 arg4 harg4 arg5 harg5 arg6 harg6 arg7 harg7 arg8 harg8 arg9 harg9 X4 X9 n).2.2.2) _ e rfl

/-- One entry of result 6's block. -/
theorem out_e2 (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2x128x128 .bf16) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x128x128 .bf16) (harg7 : arg7.IsWhole) (arg8 : Memref sig .tc .vmem S1x8x128x128 .bf16) (harg8 : arg8.IsWhole) (arg9 : Memref sig .tc .vmem S1024x256 .bf16) (harg9 : arg9.IsWhole) (n : Fin 8) (x y : Fin 128) (A : Fin 1024) (hA : A.val = n.val * 128 + y.val) :
    (show EReal from out0_A_6 (F := Ideal) c i arg2 harg2 arg3 harg3 arg4 harg4 arg5 harg5 arg6 harg6 arg7 harg7 arg8 harg8 arg9 harg9 x0 x1 x2 (ix4 (0 : Fin 1) n x y)) = weight (blockScore x0 x1 x2 1 A) x := by
  have hL : (kernelRun0_A (F := Ideal) c i arg2 harg2 arg3 harg3 arg4 harg4 arg5 harg5 arg6 harg6 arg7 harg7 arg8 harg8 arg9 harg9 x0 x1 x2).2.2.2.1 = (pb_k0_t1 (F := Ideal) Variants.none c none i arg2 harg2 arg3 harg3 arg4 harg4 arg5 harg5 arg6 harg6 arg7 harg7 arg8 harg8 arg9 harg9 (harg4.unread x2) (scr arg9 (k0_pay1 (F := Ideal) x0 x1)) 4).2.2.2 := by
    unfold kernelRun0_A
    dsimp only
    sl_unfold_words
    rw [View.readAt_full, View.readAt_full, harg2.read_unread, harg3.read_unread]
    rfl
  unfold out0_A_6
  rw [hL, pieces_e2]
  refine read_all VO0_6 _ (fun k => k0_pay1659 (F := Ideal) (truncf .bf16 (E2 (sc2 arg4 arg9 (harg4.unread x2) (scr arg9 (k0_pay1 (F := Ideal) x0 x1)) k)) bitsLt_bf16_f32)) (fun k => k0_pay1657 (F := Ideal) (truncf .bf16 (E2 (sc2 arg4 arg9 (harg4.unread x2) (scr arg9 (k0_pay1 (F := Ideal) x0 x1)) k)) bitsLt_bf16_f32)) n x y _ (fun k hk => ?_) (fun k hk => ?_)
  · refine (pay1659_apply _ x y).trans ((E2_apply _ x _).trans ?_)
    rw [col_sc2 x0 x1 x2 arg4 arg9 harg4 k _ A (by show A.val = 256 * k.val + (128 + y.val); omega)]
  · refine (pay1657_apply _ x y).trans ((E2_apply _ x _).trans ?_)
    rw [col_sc2 x0 x1 x2 arg4 arg9 harg4 k _ A (by show A.val = 256 * k.val + y.val; omega)]

end Cert.RouteIdeal.Value

end
-- ==== Proof.RouteRef.lean ====
/- What the routing reference computes, entry by entry. -/
module

public import proofs.«01_k».proof.Proof.Gen.RouteRefIdeal.Read
public import proofs.«01_k».proof.Proof.RouteMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteRefIdeal.Value

open Cert.RouteRefIdeal Cert.RouteRefIdeal.Gen Cert.RouteRefIdeal.Read Cert.RouteNet

/-- Token `n`'s query for half `p` of head `h`, at channel `j`. -/
def query (X : FVec Ideal S32768x2048 .f32) (W : FVec Ideal S2048x2048 .f32) (n : Fin 32768) (h : Fin 8) (p : Fin 2) (j : Fin 128) : EReal :=
  ∑ e : Fin 2048, X (ix2 n e) * W (ix2 e (⟨h.val * 256 + p.val * 128 + j.val, by omega⟩ : Fin 2048))

/-- Token `n`'s scores against the keys of half `p`, in head `h`. -/
def score (X : FVec Ideal S32768x2048 .f32) (W : FVec Ideal S2048x2048 .f32) (K : FVec Ideal S2x128x128 .f32) (n : Fin 32768) (h : Fin 8) (p : Fin 2) (k : Fin 128) : EReal :=
  ∑ j : Fin 128, K (ix3 p k j) * query X W n h p j

/-- The reference's scores, at one entry. -/
theorem score_apply (X : FVec Ideal S32768x2048 .f32) (W : FVec Ideal S2048x2048 .f32) (K : FVec Ideal S2x128x128 .f32) (n : Fin 32768) (h : Fin 8) (p : Fin 2) (k : Fin 128) :
    val_main_v3 (F := Ideal) X W K (ix4 n h p k) = score X W K n h p k := by
  pointwise [val_main_v3, val_main_v2, val_main_v1, val_main_v0, score, query]

/-- The values of a selection of the sixteen greatest along an axis, at one entry. -/
theorem topK_row {s t : Shape} (d : ℕ) (hd : d < s.rank) (v : FVec Ideal s .f32) (h : s.Slices (fun _ => 0) t) (J : t.Idx) (j : s.Idx)
    (hj : ∀ y : s.Idx → EReal, extractStridedSlice t (fun _ => 0) y h J = y j) (f : Fin (s.size ⟨d, hd⟩) → EReal)
    (hf : ∀ k, v (j.along ⟨d, hd⟩ k) = f k) (i : Fin 16) (hi : (j ⟨d, hd⟩).val = i.val) :
    (Host.topK t d (FloatOps.cmpfTotal (F := Ideal) (φ := .f32) .gt) v h).1 J = kth (List.ofFn f) i := by
  refine (hj _).trans ?_
  unfold Host.sort2
  rw [dif_pos hd]
  refine (hf _).trans ?_
  simp only [hf]
  exact sorted_kth f _ i hi

/-- The reference's greatest scores, at one entry. -/
theorem values_apply (X : FVec Ideal S32768x2048 .f32) (W : FVec Ideal S2048x2048 .f32) (K : FVec Ideal S2x128x128 .f32) (n : Fin 32768) (h : Fin 8) (p : Fin 2) (i : Fin 16) :
    val_main_values (F := Ideal) X W K (ix4 n h p i) = tops (score X W K n h p) i := by
  unfold val_main_values tops
  refine topK_row 3 (by decide) _ _ _ (ix4 n h p (⟨i.val, by omega⟩ : Fin 128)) (fun y => ?_) _ (fun k => ?_) i rfl
  · pointwise
  · refine Eq.trans (congrArg (val_main_v3 (F := Ideal) X W K) (funext fun a => ?_)) (score_apply X W K n h p k)
    match a with
    | ⟨0, _⟩ => rfl
    | ⟨1, _⟩ => rfl
    | ⟨2, _⟩ => rfl
    | ⟨3, _⟩ => rfl

/-- The reference's sums, at one entry. -/
theorem sums_apply (X : FVec Ideal S32768x2048 .f32) (W : FVec Ideal S2048x2048 .f32) (K : FVec Ideal S2x128x128 .f32) (n : Fin 32768) (h : Fin 8) (c : Fin 256) :
    val_main_v13 (F := Ideal) X W K (ix3 n h c) = sums (tops (score X W K n h 0)) (tops (score X W K n h 1)) c := by
  pointwise [val_main_v13, val_main_v12, val_main_v11, val_main_v10, val_main_v9, val_main_v8, val_main_v7, val_main_v6, val_main_v5, val_main_v4, values_apply, sums]

/-- The reference's greatest sums, at one entry. -/
theorem bests_apply (X : FVec Ideal S32768x2048 .f32) (W : FVec Ideal S2048x2048 .f32) (K : FVec Ideal S2x128x128 .f32) (n : Fin 32768) (h : Fin 8) (i : Fin 16) :
    val_main_values_0 (F := Ideal) X W K (ix3 n h i) = bests (tops (score X W K n h 0)) (tops (score X W K n h 1)) i := by
  unfold val_main_values_0 bests
  refine topK_row 2 (by decide) _ _ _ (ix3 n h (⟨i.val, by omega⟩ : Fin 256)) (fun y => ?_) _ (fun k => ?_) i rfl
  · pointwise
  · refine Eq.trans (congrArg (val_main_v13 (F := Ideal) X W K) (funext fun a => ?_)) (sums_apply X W K n h k)
    match a with
    | ⟨0, _⟩ => rfl
    | ⟨1, _⟩ => rfl
    | ⟨2, _⟩ => rfl

/-- The reference's sums of exponentials, at one entry. -/
theorem mass_apply (X : FVec Ideal S32768x2048 .f32) (W : FVec Ideal S2048x2048 .f32) (K : FVec Ideal S2x128x128 .f32) (n : Fin 32768) (h : Fin 8) :
    val_main_v18 (F := Ideal) X W K (ix2 n h) = mass (score X W K n h 0) (score X W K n h 1) := by
  pointwise [val_main_v18, val_main_v17, val_main_v16, val_main_v15, val_main_v14, val_main_cst, bests_apply, mass]

/-- The reference's first weights, at one entry. -/
theorem share_apply (X : FVec Ideal S32768x2048 .f32) (W : FVec Ideal S2048x2048 .f32) (K : FVec Ideal S2x128x128 .f32) (n : Fin 32768) (h : Fin 8) (k : Fin 128) :
    val_main_v58 (F := Ideal) X W K (ix3 n h k) = share (score X W K n h 0) (score X W K n h 1) k := by
  pointwise [val_main_v58, val_main_v57, val_main_v56, val_main_v55, val_main_cst_8, val_main_v54, val_main_v53, val_main_v52, val_main_v51, val_main_v50, val_main_v49, val_main_v48, val_main_v19, mass_apply, score_apply, values_apply, share, weight]

/-- The reference's second weights, at one entry. -/
theorem weight_apply (X : FVec Ideal S32768x2048 .f32) (W : FVec Ideal S2048x2048 .f32) (K : FVec Ideal S2x128x128 .f32) (n : Fin 32768) (h : Fin 8) (k : Fin 128) :
    val_main_v65 (F := Ideal) X W K (ix3 n h k) = weight (score X W K n h 1) k := by
  pointwise [val_main_v65, val_main_v64, val_main_v63, val_main_v62, val_main_v61, val_main_v60, val_main_v59, score_apply, values_apply, weight]

/-- One place of the first count. -/
theorem above_place (X : FVec Ideal S32768x2048 .f32) (W : FVec Ideal S2048x2048 .f32) (K : FVec Ideal S2x128x128 .f32) (n : Fin 32768) (h : Fin 8) (k : Fin 128) (r : Fin 16) :
    val_main_v46 (F := Ideal) X W K (ix4 n h k r)
      = Scalar.select (Ideal.cmp .olt (score X W K n h 1 k) (tops (score X W K n h 1) r)) (Ideal.ofBits .f32 0x3F800000#32) (Ideal.ofBits .f32 0x00000000#32) := by
  show val_main_v45 (F := Ideal) X W K (ix4 n h k r) = _
  pointwise [val_main_v45, val_main_call1_v0, val_main_call1_v1, val_main_cst_6, val_main_cst_5, val_main_v44, val_main_v43, val_main_v42, val_main_v41, val_main_v40, val_main_v39, val_main_v38, val_main_v37, val_main_v36, score_apply, values_apply]

/-- The reference's counts of the greater ones, at one entry. -/
theorem above_apply (X : FVec Ideal S32768x2048 .f32) (W : FVec Ideal S2048x2048 .f32) (K : FVec Ideal S2x128x128 .f32) (n : Fin 32768) (h : Fin 8) (k : Fin 128) :
    val_main_v47 (F := Ideal) X W K (ix3 n h k) = above (score X W K n h 1) k := by
  pointwise [val_main_v47, val_main_cst_7, above_place, above, countAll]

/-- One place of the second count. -/
theorem reached_place (X : FVec Ideal S32768x2048 .f32) (W : FVec Ideal S2048x2048 .f32) (K : FVec Ideal S2x128x128 .f32) (n : Fin 32768) (h : Fin 8) (k : Fin 128) (r : Fin 16) :
    val_main_v34 (F := Ideal) X W K (ix4 n h k r)
      = Scalar.select (Ideal.cmp .oge (score X W K n h 0 k + tops (score X W K n h 1) r) (least (score X W K n h 0) (score X W K n h 1))) (Ideal.ofBits .f32 0x3F800000#32) (Ideal.ofBits .f32 0x00000000#32) := by
  show val_main_v33 (F := Ideal) X W K (ix4 n h k r) = _
  pointwise [val_main_v33, val_main_call0_v0, val_main_call0_v1, val_main_cst_3, val_main_cst_2, val_main_v32, val_main_v31, val_main_v30, val_main_v29, val_main_v28, val_main_v27, val_main_v26, val_main_v25, val_main_v24, val_main_v23, val_main_v22, val_main_v21, val_main_v20, score_apply, values_apply, bests_apply, least]

/-- The reference's counts of the sums at or above the sixteenth, at one entry. -/
theorem reached_apply (X : FVec Ideal S32768x2048 .f32) (W : FVec Ideal S2048x2048 .f32) (K : FVec Ideal S2x128x128 .f32) (n : Fin 32768) (h : Fin 8) (k : Fin 128) :
    val_main_v35 (F := Ideal) X W K (ix3 n h k) = reached (score X W K n h 0) (score X W K n h 1) k := by
  pointwise [val_main_v35, val_main_cst_4, reached_place, reached, countAll]

/-- The token of lane `l` of tile `b`. -/
def tokenOf (b : Fin 256) (l : Fin 128) : Fin 32768 := ⟨b.val * 128 + l.val, by omega⟩

/-- The reference's result that holds the counts, at one entry. -/
theorem reached_result (X : FVec Ideal S32768x2048 .f32) (W : FVec Ideal S2048x2048 .f32) (K : FVec Ideal S2x128x128 .f32) (h : Fin 8) (b : Fin 256) (k l : Fin 128) :
    val_main_v67 (F := Ideal) X W K (ix4 h b k l) = reached (score X W K (tokenOf b l) h 0) (score X W K (tokenOf b l) h 1) k := by
  unfold tokenOf
  pointwise [val_main_v67, val_main_v66, reached_apply]

/-- The reference's result that holds the first weights, at one entry. -/
theorem share_result (X : FVec Ideal S32768x2048 .f32) (W : FVec Ideal S2048x2048 .f32) (K : FVec Ideal S2x128x128 .f32) (h : Fin 8) (b : Fin 256) (k l : Fin 128) :
    val_main_v69 (F := Ideal) X W K (ix4 h b k l) = share (score X W K (tokenOf b l) h 0) (score X W K (tokenOf b l) h 1) k := by
  unfold tokenOf
  pointwise [val_main_v69, val_main_v68, share_apply]

/-- The reference's result that holds the counts of the greater ones, at one entry. -/
theorem above_result (X : FVec Ideal S32768x2048 .f32) (W : FVec Ideal S2048x2048 .f32) (K : FVec Ideal S2x128x128 .f32) (h : Fin 8) (b : Fin 256) (k l : Fin 128) :
    val_main_v72 (F := Ideal) X W K (ix4 h b k l) = above (score X W K (tokenOf b l) h 1) k := by
  unfold tokenOf
  pointwise [val_main_v72, val_main_v71, val_main_v70, above_apply]

/-- The reference's result that holds the second weights, at one entry. -/
theorem weight_result (X : FVec Ideal S32768x2048 .f32) (W : FVec Ideal S2048x2048 .f32) (K : FVec Ideal S2x128x128 .f32) (h : Fin 8) (b : Fin 256) (k l : Fin 128) :
    val_main_v75 (F := Ideal) X W K (ix4 h b k l) = weight (score X W K (tokenOf b l) h 1) k := by
  unfold tokenOf
  pointwise [val_main_v75, val_main_v74, val_main_v73, weight_apply]

end Cert.RouteRefIdeal.Value

end
-- ==== Proof.RouteValue.lean ====
/- The routing kernel's result arrays are the reference's. -/
module

public import proofs.«01_k».proof.Proof.RouteOut
public import proofs.«01_k».proof.Proof.RouteRef
public import proofs.«01_k».proof.Proof.Gen.RouteRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteIdeal.Value

open Cert.RouteIdeal Cert.RouteIdeal.Gen Cert.RouteNet

open Cert.RouteRefIdeal.Value (query score tokenOf reached_result share_result above_result weight_result)

variable (m : (ℓ : Loc nD τ sig) → Buf (Elt Ideal) ℓ)

/-- The windows' block indices at a grid point: a point is a block of tokens and a head. -/
theorem idx_val : ∀ t : Fin cfg0.N, win0_0.index t = ![t.val / 8, 0] ∧ win0_1.index t = ![0, t.val % 8] ∧ win0_2.index t = ![0, 0, 0]
    ∧ win0_3.index t = ![t.val % 8, t.val / 8, 0, 0] ∧ win0_4.index t = ![t.val % 8, t.val / 8, 0, 0]
    ∧ win0_5.index t = ![t.val % 8, t.val / 8, 0, 0] ∧ win0_6.index t = ![t.val % 8, t.val / 8, 0, 0] :=
  (by decide +kernel : ∀ t : Fin grid0.N, _)

/-- The head a grid point works on. -/
def headOf (t : Fin cfg0.N) : Fin 8 := ⟨t.val % 8, by omega⟩

/-- The tile of the results where tile `n` of a grid point's block lies. -/
def tileOf (t : Fin cfg0.N) (n : Fin 8) : Fin 256 := ⟨t.val / 8 * 8 + n.val, by have ht : t.val < 256 := t.isLt; omega⟩

/-- The row of a grid point's block of tokens for lane `l` of tile `n`. -/
def laneOf (n : Fin 8) (l : Fin 128) : Fin 1024 := ⟨n.val * 128 + l.val, by omega⟩

/-- The block of tokens, read at one entry. -/
theorem tokens_apply (c : Dev nD) (t : Fin cfg0.N) (n : Fin 8) (l : Fin 128) (e : Fin 2048) :
    (show EReal from iblk m c 0 t (ix2 (laneOf n l) e)) = (show EReal from (m ((c : Thread nD τ).loc main_arg0)) (ix2 (tokenOf (tileOf t n) l) e)) := by
  have ht : t.val < 256 := t.isLt
  unfold tokenOf tileOf laneOf
  blk_point [iblk, V, idx_val t]

/-- The block of query weights, read at one entry. -/
theorem weights_apply (c : Dev nD) (t : Fin cfg0.N) (e : Fin 2048) (p : Fin 2) (j : Fin 128) :
    (show EReal from iblk m c 1 t (ix2 e (⟨p.val * 128 + j.val, by omega⟩ : Fin 256)))
      = (show EReal from (m ((c : Thread nD τ).loc main_arg1)) (ix2 e (⟨(headOf t).val * 256 + p.val * 128 + j.val, by have := (headOf t).isLt; omega⟩ : Fin 2048))) := by
  have ht : t.val < 256 := t.isLt
  unfold headOf
  blk_point [iblk, V, idx_val t]

/-- The keys are read whole. -/
theorem keyblk_apply (c : Dev nD) (t : Fin cfg0.N) (p : Fin 2) (κ j : Fin 128) :
    (show EReal from iblk m c 2 t (ix3 p κ j)) = (show EReal from (m ((c : Thread nD τ).loc main_arg2)) (ix3 p κ j)) := by
  have ht : t.val < 256 := t.isLt
  blk_point [iblk, V, idx_val t]

/-- The scores a grid point computes are the reference's. -/
theorem score_apply (c : Dev nD) (t : Fin cfg0.N) (n : Fin 8) (l : Fin 128) (p : Fin 2) :
    blockScore (iblk m c 0 t) (iblk m c 1 t) (iblk m c 2 t) p (laneOf n l) = score (m ((c : Thread nD τ).loc main_arg0)) (m ((c : Thread nD τ).loc main_arg1)) (m ((c : Thread nD τ).loc main_arg2)) (tokenOf (tileOf t n) l) (headOf t) p := by
  funext κ
  unfold blockScore score query
  refine Finset.sum_congr rfl fun j _ => congrArg₂ (· * ·) (keyblk_apply m c t p κ j) (Finset.sum_congr rfl fun e _ => congrArg₂ (· * ·) (tokens_apply m c t n l e) ?_)
  exact weights_apply m c t e p j

/-- Result 0 after the run is the reference's. -/
theorem final3 (c : Dev nD) : (dats m 0 c).arrAt 3 (cfgs 0).N = Cert.RouteRefIdeal.Read.val_main_v67 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  idx_vars y
  have ht : t.val < 256 := t.isLt
  obtain rfl : y0 = (0 : Fin 1) := Fin.ext (by omega)
  have hy : ((cfg0.win 3).blk t).view.emb (ix4 (0 : Fin 1) y1 y2 y3) = ix4 (headOf t) (tileOf t y1) y2 y3 := by
    unfold headOf tileOf
    blk_ext [idx_val t]
  rw [hy, reached_result]
  refine (out_n1 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) y1 y2 y3 (laneOf y1 y3) rfl).trans ?_
  rw [score_apply, score_apply]

/-- Result 1 after the run is the reference's. -/
theorem final4 (c : Dev nD) : (dats m 0 c).arrAt 4 (cfgs 0).N = Cert.RouteRefIdeal.Read.val_main_v69 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  idx_vars y
  have ht : t.val < 256 := t.isLt
  obtain rfl : y0 = (0 : Fin 1) := Fin.ext (by omega)
  have hy : ((cfg0.win 4).blk t).view.emb (ix4 (0 : Fin 1) y1 y2 y3) = ix4 (headOf t) (tileOf t y1) y2 y3 := by
    unfold headOf tileOf
    blk_ext [idx_val t]
  rw [hy, share_result]
  refine (out_c1 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) y1 y2 y3 (laneOf y1 y3) rfl).trans ?_
  rw [score_apply, score_apply]

/-- Result 2 after the run is the reference's. -/
theorem final5 (c : Dev nD) : (dats m 0 c).arrAt 5 (cfgs 0).N = Cert.RouteRefIdeal.Read.val_main_v72 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  idx_vars y
  have ht : t.val < 256 := t.isLt
  obtain rfl : y0 = (0 : Fin 1) := Fin.ext (by omega)
  have hy : ((cfg0.win 5).blk t).view.emb (ix4 (0 : Fin 1) y1 y2 y3) = ix4 (headOf t) (tileOf t y1) y2 y3 := by
    unfold headOf tileOf
    blk_ext [idx_val t]
  rw [hy, above_result]
  refine (out_r2 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) y1 y2 y3 (laneOf y1 y3) rfl).trans ?_
  rw [score_apply]

/-- Result 3 after the run is the reference's. -/
theorem final6 (c : Dev nD) : (dats m 0 c).arrAt 6 (cfgs 0).N = Cert.RouteRefIdeal.Read.val_main_v75 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]
  idx_vars y
  have ht : t.val < 256 := t.isLt
  obtain rfl : y0 = (0 : Fin 1) := Fin.ext (by omega)
  have hy : ((cfg0.win 6).blk t).view.emb (ix4 (0 : Fin 1) y1 y2 y3) = ix4 (headOf t) (tileOf t y1) y2 y3 := by
    unfold headOf tileOf
    blk_ext [idx_val t]
  rw [hy, weight_result]
  refine (out_e2 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) y1 y2 y3 (laneOf y1 y3) rfl).trans ?_
  rw [score_apply]

/-- The kernel's results and the reference's are the same arrays over the extended reals. -/
theorem algebraic : Cert.algebraic_RouteIdeal_RouteRefIdeal := by
  pair_intro
  · run_from Cert.RouteIdeal.Gen.run_main m g
  · refine (θ_run _ _ _).mono (fun r h c => ?_) (Cert.RouteRefIdeal.Value.run (F := Ideal) m' g')
    obtain ⟨a0, a1, a2⟩ := hagree c
    obtain ⟨h0, h1, h2, h3, h4, h5, h6⟩ := h c
    refine ⟨h0.trans ((Cert.RouteRefIdeal.Read.val_main_v67_eq (F := Ideal) m' c).trans ?_), h1.trans ((Cert.RouteRefIdeal.Read.val_main_v69_eq (F := Ideal) m' c).trans ?_),
      h2.trans ((Cert.RouteRefIdeal.Read.val_main_v72_eq (F := Ideal) _ _ _).trans ?_), h3.trans ((Cert.RouteRefIdeal.Read.val_main_v75_eq (F := Ideal) _ _ _).trans ?_), h4, h5, h6⟩
    · rw [a0, a1, a2]; exact (Cert.RouteIdeal.Value.final3 m c).symm
    · rw [a0, a1, a2]; exact (Cert.RouteIdeal.Value.final4 m c).symm
    · rw [a0, a1, a2]; exact (Cert.RouteIdeal.Value.final5 m c).symm
    · rw [a0, a1, a2]; exact (Cert.RouteIdeal.Value.final6 m c).symm

end Cert.RouteIdeal.Value

end
-- ==== Proof.lean ====
/- The certificate's claim: the frames, one after another, and the value equations of the modules imported here. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.XattnValue
public import proofs.«01_k».proof.Proof.Gen.Conv.Frame
public import proofs.«01_k».proof.Proof.Gen.ConvIdeal.Frame
public import proofs.«01_k».proof.Proof.Gen.ConvRefIdeal.Run
public import proofs.«01_k».proof.Proof.Gen.ConvRefIdeal.Read
public import proofs.«01_k».proof.Proof.ConvValue
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.ProjValue
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.MixValue
public import proofs.«01_k».proof.Proof.Gen.Inp.Frame
public import proofs.«01_k».proof.Proof.Gen.InpIdeal.Frame
public import proofs.«01_k».proof.Proof.Gen.InpRefIdeal.Run
public import proofs.«01_k».proof.Proof.Gen.InpRefIdeal.Read
public import proofs.«01_k».proof.Proof.InpValue
public import proofs.«01_k».proof.Proof.Gen.Kv.Frame
public import proofs.«01_k».proof.Proof.Gen.KvIdeal.Frame
public import proofs.«01_k».proof.Proof.Gen.KvRefIdeal.Run
public import proofs.«01_k».proof.Proof.Gen.KvRefIdeal.Read
public import proofs.«01_k».proof.Proof.KvValue
public import proofs.«01_k».proof.Proof.Gen.Sgu.Frame
public import proofs.«01_k».proof.Proof.Gen.SguIdeal.Frame
public import proofs.«01_k».proof.Proof.Gen.SguRefIdeal.Run
public import proofs.«01_k».proof.Proof.Gen.SguRefIdeal.Read
public import proofs.«01_k».proof.Proof.SguValue
public import proofs.«01_k».proof.Proof.Gen.Route.Frame
public import proofs.«01_k».proof.Proof.Gen.RouteIdeal.Frame
public import proofs.«01_k».proof.Proof.Gen.RouteRefIdeal.Run
public import proofs.«01_k».proof.Proof.Gen.RouteRefIdeal.Read
public import proofs.«01_k».proof.Proof.RouteValue
public import proofs.«01_k».proof.Proof.Gen.Hgrn.Frame
public import proofs.«01_k».proof.Proof.Gen.HgrnIdeal.Frame
public import Idealize.ShloMosaic.Lib.Claim

@[expose] public section

noncomputable section

namespace Cert.Proof

open Idealize.ShloMosaic Idealize.SL.Sem

/-- The reference `ReferenceIdeal` runs, leaves its arguments as they were and ends with every counter at zero. -/
theorem frame_ReferenceIdeal : Cert.quiescent_ReferenceIdeal := fun m ρ _ =>
  (θ_run _ _ _).mono (fun r h => ⟨fun c => (h c).2, sem_eq_zero_of_no_sems (by decide) r.2⟩) (Cert.ReferenceIdeal.Value.run m ρ)

/-- The reference `ConvRefIdeal` runs, leaves its arguments as they were and ends with every counter at zero. -/
theorem frame_ConvRefIdeal : Cert.quiescent_ConvRefIdeal := fun m ρ _ =>
  (θ_run _ _ _).mono (fun r h => ⟨fun c => (h c).2, sem_eq_zero_of_no_sems (by decide) r.2⟩) (Cert.ConvRefIdeal.Value.run m ρ)

/-- The reference `ProjRefIdeal` runs, leaves its arguments as they were and ends with every counter at zero. -/
theorem frame_ProjRefIdeal : Cert.quiescent_ProjRefIdeal := fun m ρ _ =>
  (θ_run _ _ _).mono (fun r h => ⟨fun c => (h c).2.2, sem_eq_zero_of_no_sems (by decide) r.2⟩) (Cert.ProjRefIdeal.Value.run m ρ)

/-- The reference `MixRefIdeal` runs, leaves its arguments as they were and ends with every counter at zero. -/
theorem frame_MixRefIdeal : Cert.quiescent_MixRefIdeal := fun m ρ _ =>
  (θ_run _ _ _).mono (fun r h => ⟨fun c => (h c).2.2, sem_eq_zero_of_no_sems (by decide) r.2⟩) (Cert.MixRefIdeal.Value.run m ρ)

/-- The reference `InpRefIdeal` runs, leaves its arguments as they were and ends with every counter at zero. -/
theorem frame_InpRefIdeal : Cert.quiescent_InpRefIdeal := fun m ρ _ =>
  (θ_run _ _ _).mono (fun r h => ⟨fun c => (h c).2, sem_eq_zero_of_no_sems (by decide) r.2⟩) (Cert.InpRefIdeal.Value.run m ρ)

/-- The reference `KvRefIdeal` runs, leaves its arguments as they were and ends with every counter at zero. -/
theorem frame_KvRefIdeal : Cert.quiescent_KvRefIdeal := fun m ρ _ =>
  (θ_run _ _ _).mono (fun r h => ⟨fun c => (h c).2, sem_eq_zero_of_no_sems (by decide) r.2⟩) (Cert.KvRefIdeal.Value.run m ρ)

/-- The reference `SguRefIdeal` runs, leaves its arguments as they were and ends with every counter at zero. -/
theorem frame_SguRefIdeal : Cert.quiescent_SguRefIdeal := fun m ρ _ =>
  (θ_run _ _ _).mono (fun r h => ⟨fun c => (h c).2, sem_eq_zero_of_no_sems (by decide) r.2⟩) (Cert.SguRefIdeal.Value.run m ρ)

/-- The reference `RouteRefIdeal` runs, leaves its arguments as they were and ends with every counter at zero. -/
theorem frame_RouteRefIdeal : Cert.quiescent_RouteRefIdeal := fun m ρ _ =>
  (θ_run _ _ _).mono (fun r h => ⟨fun c => (h c).2.2.2.2, sem_eq_zero_of_no_sems (by decide) r.2⟩) (Cert.RouteRefIdeal.Value.run m ρ)

/-- Every program's frame, and each kernel call's array equal to its reference's. -/
theorem claim : Cert.Claim :=
  ⟨Cert.Kernel.Gen.facts, Cert.KernelIdeal.Gen.facts, Cert.ReferenceIdeal.Gen.facts, Cert.Conv.Gen.facts, Cert.ConvIdeal.Gen.facts, Cert.ConvRefIdeal.Gen.facts, Cert.Proj.Gen.facts, Cert.ProjIdeal.Gen.facts, Cert.ProjRefIdeal.Gen.facts, Cert.Mix.Gen.facts, Cert.MixIdeal.Gen.facts, Cert.MixRefIdeal.Gen.facts, Cert.Inp.Gen.facts, Cert.InpIdeal.Gen.facts, Cert.InpRefIdeal.Gen.facts, Cert.Kv.Gen.facts, Cert.KvIdeal.Gen.facts, Cert.KvRefIdeal.Gen.facts, Cert.Sgu.Gen.facts, Cert.SguIdeal.Gen.facts, Cert.SguRefIdeal.Gen.facts, Cert.Route.Gen.facts, Cert.RouteIdeal.Gen.facts, Cert.RouteRefIdeal.Gen.facts, Cert.Hgrn.Gen.facts, Cert.HgrnIdeal.Gen.facts,
    fun m ρ _ => Cert.Kernel.Gen.frame m ρ,
    fun m ρ _ => Cert.KernelIdeal.Gen.frame m ρ,
    frame_ReferenceIdeal,
    fun m ρ _ => Cert.Conv.Gen.frame m ρ,
    fun m ρ _ => Cert.ConvIdeal.Gen.frame m ρ,
    frame_ConvRefIdeal,
    fun m ρ _ => Cert.Proj.Gen.frame m ρ,
    fun m ρ _ => Cert.ProjIdeal.Gen.frame m ρ,
    frame_ProjRefIdeal,
    fun m ρ _ => Cert.Mix.Gen.frame m ρ,
    fun m ρ _ => Cert.MixIdeal.Gen.frame m ρ,
    frame_MixRefIdeal,
    fun m ρ _ => Cert.Inp.Gen.frame m ρ,
    fun m ρ _ => Cert.InpIdeal.Gen.frame m ρ,
    frame_InpRefIdeal,
    fun m ρ _ => Cert.Kv.Gen.frame m ρ,
    fun m ρ _ => Cert.KvIdeal.Gen.frame m ρ,
    frame_KvRefIdeal,
    fun m ρ _ => Cert.Sgu.Gen.frame m ρ,
    fun m ρ _ => Cert.SguIdeal.Gen.frame m ρ,
    frame_SguRefIdeal,
    fun m ρ _ => Cert.Route.Gen.frame m ρ,
    fun m ρ _ => Cert.RouteIdeal.Gen.frame m ρ,
    frame_RouteRefIdeal,
    fun m ρ _ => Cert.Hgrn.Gen.frame m ρ,
    fun m ρ _ => Cert.HgrnIdeal.Gen.frame m ρ,
    trivial,
    Cert.KernelIdeal.Value.algebraic,
    trivial,
    Cert.ConvIdeal.Value.algebraic,
    trivial,
    Cert.ProjIdeal.Value.algebraic,
    trivial,
    Cert.MixIdeal.Value.algebraic,
    trivial,
    Cert.InpIdeal.Value.algebraic,
    trivial,
    Cert.KvIdeal.Value.algebraic,
    trivial,
    Cert.SguIdeal.Value.algebraic,
    trivial,
    Cert.RouteIdeal.Value.algebraic,
    trivial⟩

end Cert.Proof

end
